-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x7168 : Shape := ⟨3, ![2, 896, 7168]⟩
abbrev S20480x3584 : Shape := ⟨2, ![20480, 3584]⟩
abbrev S20480x112 : Shape := ⟨2, ![20480, 112]⟩
abbrev S8960 : Shape := ⟨1, ![8960]⟩
abbrev S_ : Shape := ⟨0, ![]⟩
abbrev S16x7168 : Shape := ⟨2, ![16, 7168]⟩
abbrev S20480x16 : Shape := ⟨2, ![20480, 16]⟩
abbrev S1792x7168 : Shape := ⟨2, ![1792, 7168]⟩
abbrev S1792x16 : Shape := ⟨2, ![1792, 16]⟩
abbrev S128x7168 : Shape := ⟨2, ![128, 7168]⟩
abbrev S128x16 : Shape := ⟨2, ![128, 16]⟩
abbrev S256x256 : Shape := ⟨2, ![256, 256]⟩
abbrev S128x256 : Shape := ⟨2, ![128, 256]⟩
abbrev S80x1x112 : Shape := ⟨3, ![80, 1, 112]⟩
abbrev S80x1x128 : Shape := ⟨3, ![80, 1, 128]⟩
abbrev S1 : Shape := ⟨1, ![1]⟩
abbrev S112x20480 : Shape := ⟨2, ![112, 20480]⟩
abbrev S16x20480 : Shape := ⟨2, ![16, 20480]⟩
abbrev S1792x20480 : Shape := ⟨2, ![1792, 20480]⟩
abbrev S256x3584 : Shape := ⟨2, ![256, 3584]⟩
abbrev S112x256 : Shape := ⟨2, ![112, 256]⟩
abbrev S1x1x128 : Shape := ⟨3, ![1, 1, 128]⟩
abbrev S16x256 : Shape := ⟨2, ![16, 256]⟩
abbrev S1792x256 : Shape := ⟨2, ![1792, 256]⟩
abbrev S256x7168 : Shape := ⟨2, ![256, 7168]⟩
abbrev S8x128 : Shape := ⟨2, ![8, 128]⟩
abbrev S112x128 : Shape := ⟨2, ![112, 128]⟩
abbrev S1x128 : Shape := ⟨2, ![1, 128]⟩
abbrev S112x128x1 : Shape := ⟨3, ![112, 128, 1]⟩
abbrev S256x128 : Shape := ⟨2, ![256, 128]⟩
abbrev S256x128x1 : Shape := ⟨3, ![256, 128, 1]⟩
abbrev S128x128 : Shape := ⟨2, ![128, 128]⟩
abbrev S128x128x1 : Shape := ⟨3, ![128, 128, 1]⟩
abbrev S2x896x20480 : Shape := ⟨3, ![2, 896, 20480]⟩

abbrev nBuf : Space → Nat
  | .hbm => 19
  | .vmem => 20
  | .smem => 1
  | _ => 0

abbrev bufTy : (tb : Table) → Fin (tcTables nBuf tb) → BufTy
  | .hbm, ⟨0, _⟩ => ⟨S2x896x7168, .bf16⟩
  | .hbm, ⟨1, _⟩ => ⟨S20480x3584, .i8⟩
  | .hbm, ⟨2, _⟩ => ⟨S20480x112, .i8⟩
  | .hbm, ⟨3, _⟩ => ⟨S8960, .f32⟩
  | .hbm, ⟨4, _⟩ => ⟨S_, .f32⟩
  | .hbm, ⟨5, _⟩ => ⟨S16x7168, .bf16⟩
  | .hbm, ⟨6, _⟩ => ⟨S20480x16, .bf16⟩
  | .hbm, ⟨7, _⟩ => ⟨S1792x7168, .bf16⟩
  | .hbm, ⟨8, _⟩ => ⟨S1792x7168, .bf16⟩
  | .hbm, ⟨9, _⟩ => ⟨S1792x16, .bf16⟩
  | .hbm, ⟨10, _⟩ => ⟨S80x1x112, .f32⟩
  | .hbm, ⟨11, _⟩ => ⟨S_, .i32⟩
  | .hbm, ⟨12, _⟩ => ⟨S_, .f32⟩
  | .hbm, ⟨13, _⟩ => ⟨S80x1x128, .f32⟩
  | .hbm, ⟨14, _⟩ => ⟨S1, .f32⟩
  | .hbm, ⟨15, _⟩ => ⟨S112x20480, .i8⟩
  | .hbm, ⟨16, _⟩ => ⟨S16x20480, .bf16⟩
  | .hbm, ⟨17, _⟩ => ⟨S1792x20480, .bf16⟩
  | .hbm, ⟨18, _⟩ => ⟨S2x896x20480, .bf16⟩
  | .local _ .vmem, ⟨0, _⟩ => ⟨S128x7168, .bf16⟩
  | .local _ .vmem, ⟨1, _⟩ => ⟨S128x7168, .bf16⟩
  | .local _ .vmem, ⟨2, _⟩ => ⟨S16x7168, .bf16⟩
  | .local _ .vmem, ⟨3, _⟩ => ⟨S128x7168, .bf16⟩
  | .local _ .vmem, ⟨4, _⟩ => ⟨S128x7168, .bf16⟩
  | .local _ .vmem, ⟨5, _⟩ => ⟨S128x16, .bf16⟩
  | .local _ .vmem, ⟨6, _⟩ => ⟨S128x16, .bf16⟩
  | .local _ .vmem, ⟨7, _⟩ => ⟨S1792x7168, .bf16⟩
  | .local _ .vmem, ⟨8, _⟩ => ⟨S1792x16, .bf16⟩
  | .local _ .vmem, ⟨9, _⟩ => ⟨S256x3584, .i8⟩
  | .local _ .vmem, ⟨10, _⟩ => ⟨S256x3584, .i8⟩
  | .local _ .vmem, ⟨11, _⟩ => ⟨S112x256, .i8⟩
  | .local _ .vmem, ⟨12, _⟩ => ⟨S112x256, .i8⟩
  | .local _ .vmem, ⟨13, _⟩ => ⟨S1x1x128, .f32⟩
  | .local _ .vmem, ⟨14, _⟩ => ⟨S1x1x128, .f32⟩
  | .local _ .vmem, ⟨15, _⟩ => ⟨S16x256, .bf16⟩
  | .local _ .vmem, ⟨16, _⟩ => ⟨S16x256, .bf16⟩
  | .local _ .vmem, ⟨17, _⟩ => ⟨S1792x256, .bf16⟩
  | .local _ .vmem, ⟨18, _⟩ => ⟨S1792x256, .bf16⟩
  | .local _ .vmem, ⟨19, _⟩ => ⟨S256x7168, .bf16⟩
  | .local _ .smem, ⟨0, _⟩ => ⟨S1, .f32⟩
  | _, _ => ⟨S2x896x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1792x7168 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1792x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x3584 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S112x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1792x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S2x896x7168 : Shape := ⟨3, ![2, 896, 7168]⟩
abbrev S20480x3584 : Shape := ⟨2, ![20480, 3584]⟩
abbrev S20480x112 : Shape := ⟨2, ![20480, 112]⟩
abbrev S8960 : Shape := ⟨1, ![8960]⟩
abbrev S_ : Shape := ⟨0, ![]⟩
abbrev S16x7168 : Shape := ⟨2, ![16, 7168]⟩
abbrev S20480x16 : Shape := ⟨2, ![20480, 16]⟩
abbrev S8960x256 : Shape := ⟨2, ![8960, 256]⟩
abbrev S8960x1 : Shape := ⟨2, ![8960, 1]⟩
abbrev S2 : Shape := ⟨1, ![2]⟩
abbrev S20480x1x3584 : Shape := ⟨3, ![20480, 1, 3584]⟩
abbrev S1x2x1 : Shape := ⟨3, ![1, 2, 1]⟩
abbrev S20480x2x3584 : Shape := ⟨3, ![20480, 2, 3584]⟩
abbrev S20480x2x112x32 : Shape := ⟨4, ![20480, 2, 112, 32]⟩
abbrev S20480x1x112x1 : Shape := ⟨4, ![20480, 1, 112, 1]⟩
abbrev S2x896x3584x2 : Shape := ⟨4, ![2, 896, 3584, 2]⟩
abbrev S2x896x20480 : Shape := ⟨3, ![2, 896, 20480]⟩
abbrev S2x896x16 : Shape := ⟨3, ![2, 896, 16]⟩

abbrev nBuf : Space → Nat
  | .hbm => 119
  | .vmem => 0
  | .smem => 0
  | _ => 0

abbrev bufTy : (tb : Table) → Fin (tcTables nBuf tb) → BufTy
  | .hbm, ⟨0, _⟩ => ⟨S2x896x7168, .bf16⟩
  | .hbm, ⟨1, _⟩ => ⟨S20480x3584, .i8⟩
  | .hbm, ⟨2, _⟩ => ⟨S20480x112, .i8⟩
  | .hbm, ⟨3, _⟩ => ⟨S8960, .f32⟩
  | .hbm, ⟨4, _⟩ => ⟨S_, .f32⟩
  | .hbm, ⟨5, _⟩ => ⟨S16x7168, .bf16⟩
  | .hbm, ⟨6, _⟩ => ⟨S20480x16, .bf16⟩
  | .hbm, ⟨7, _⟩ => ⟨S8960x256, .i8⟩
  | .hbm, ⟨8, _⟩ => ⟨S8960x256, .i32⟩
  | .hbm, ⟨9, _⟩ => ⟨S8960x256, .f32⟩
  | .hbm, ⟨10, _⟩ => ⟨S8960x1, .f32⟩
  | .hbm, ⟨11, _⟩ => ⟨S8960x256, .f32⟩
  | .hbm, ⟨12, _⟩ => ⟨S8960x256, .f32⟩
  | .hbm, ⟨13, _⟩ => ⟨S8960x256, .f32⟩
  | .hbm, ⟨14, _⟩ => ⟨S8960x256, .f32⟩
  | .hbm, ⟨15, _⟩ => ⟨S20480x112, .f32⟩
  | .hbm, ⟨16, _⟩ => ⟨S20480x112, .bf16⟩
  | .hbm, ⟨17, _⟩ => ⟨S2, .i32⟩
  | .hbm, ⟨18, _⟩ => ⟨S_, .i32⟩
  | .hbm, ⟨19, _⟩ => ⟨S2, .i32⟩
  | .hbm, ⟨20, _⟩ => ⟨S2, .i32⟩
  | .hbm, ⟨21, _⟩ => ⟨S_, .i32⟩
  | .hbm, ⟨22, _⟩ => ⟨S2, .i32⟩
  | .hbm, ⟨23, _⟩ => ⟨S2, .i32⟩
  | .hbm, ⟨24, _⟩ => ⟨S20480x1x3584, .i8⟩
  | .hbm, ⟨25, _⟩ => ⟨S20480x1x3584, .i32⟩
  | .hbm, ⟨26, _⟩ => ⟨S1x2x1, .i32⟩
  | .hbm, ⟨27, _⟩ => ⟨S20480x2x3584, .i32⟩
  | .hbm, ⟨28, _⟩ => ⟨S20480x2x3584, .i32⟩
  | .hbm, ⟨29, _⟩ => ⟨S20480x2x3584, .i32⟩
  | .hbm, ⟨30, _⟩ => ⟨S_, .i32⟩
  | .hbm, ⟨31, _⟩ => ⟨S20480x2x3584, .i32⟩
  | .hbm, ⟨32, _⟩ => ⟨S20480x2x3584, .i32⟩
  | .hbm, ⟨33, _⟩ => ⟨S_, .i32⟩
  | .hbm, ⟨34, _⟩ => ⟨S20480x2x3584, .i32⟩
  | .hbm, ⟨35, _⟩ => ⟨S20480x2x3584, .i32⟩
  | .hbm, ⟨36, _⟩ => ⟨S_, .i32⟩
  | .hbm, ⟨37, _⟩ => ⟨S20480x2x3584, .i32⟩
  | .hbm, ⟨38, _⟩ => ⟨S20480x2x3584, .i1⟩
  | .hbm, ⟨39, _⟩ => ⟨S_, .i32⟩
  | .hbm, ⟨40, _⟩ => ⟨S20480x2x3584, .i32⟩
  | .hbm, ⟨41, _⟩ => ⟨S20480x2x3584, .i32⟩
  | .hbm, ⟨42, _⟩ => ⟨S_, .i32⟩
  | .hbm, ⟨43, _⟩ => ⟨S20480x2x3584, .i32⟩
  | .hbm, ⟨44, _⟩ => ⟨S20480x2x3584, .i1⟩
  | .hbm, ⟨45, _⟩ => ⟨S_, .i32⟩
  | .hbm, ⟨46, _⟩ => ⟨S20480x2x3584, .i32⟩
  | .hbm, ⟨47, _⟩ => ⟨S20480x2x3584, .i32⟩
  | .hbm, ⟨48, _⟩ => ⟨S_, .i32⟩
  | .hbm, ⟨49, _⟩ => ⟨S20480x2x3584, .i32⟩
  | .hbm, ⟨50, _⟩ => ⟨S20480x2x3584, .i1⟩
  | .hbm, ⟨51, _⟩ => ⟨S_, .i32⟩
  | .hbm, ⟨52, _⟩ => ⟨S20480x2x3584, .i32⟩
  | .hbm, ⟨53, _⟩ => ⟨S20480x2x3584, .i32⟩
  | .hbm, ⟨54, _⟩ => ⟨S_, .i32⟩
  | .hbm, ⟨55, _⟩ => ⟨S20480x2x3584, .i32⟩
  | .hbm, ⟨56, _⟩ => ⟨S20480x2x3584, .i1⟩
  | .hbm, ⟨57, _⟩ => ⟨S_, .bf16⟩
  | .hbm, ⟨58, _⟩ => ⟨S_, .bf16⟩
  | .hbm, ⟨59, _⟩ => ⟨S20480x2x3584, .bf16⟩
  | .hbm, ⟨60, _⟩ => ⟨S20480x2x3584, .bf16⟩
  | .hbm, ⟨61, _⟩ => ⟨S20480x2x3584, .bf16⟩
  | .hbm, ⟨62, _⟩ => ⟨S_, .bf16⟩
  | .hbm, ⟨63, _⟩ => ⟨S_, .bf16⟩
  | .hbm, ⟨64, _⟩ => ⟨S20480x2x3584, .bf16⟩
  | .hbm, ⟨65, _⟩ => ⟨S20480x2x3584, .bf16⟩
  | .hbm, ⟨66, _⟩ => ⟨S20480x2x3584, .bf16⟩
  | .hbm, ⟨67, _⟩ => ⟨S_, .bf16⟩
  | .hbm, ⟨68, _⟩ => ⟨S_, .bf16⟩
  | .hbm, ⟨69, _⟩ => ⟨S20480x2x3584, .bf16⟩
  | .hbm, ⟨70, _⟩ => ⟨S20480x2x3584, .bf16⟩
  | .hbm, ⟨71, _⟩ => ⟨S20480x2x3584, .bf16⟩
  | .hbm, ⟨72, _⟩ => ⟨S_, .bf16⟩
  | .hbm, ⟨73, _⟩ => ⟨S_, .bf16⟩
  | .hbm, ⟨74, _⟩ => ⟨S20480x2x3584, .bf16⟩
  | .hbm, ⟨75, _⟩ => ⟨S20480x2x3584, .bf16⟩
  | .hbm, ⟨76, _⟩ => ⟨S20480x2x3584, .bf16⟩
  | .hbm, ⟨77, _⟩ => ⟨S_, .bf16⟩
  | .hbm, ⟨78, _⟩ => ⟨S_, .bf16⟩
  | .hbm, ⟨79, _⟩ => ⟨S20480x2x3584, .bf16⟩
  | .hbm, ⟨80, _⟩ => ⟨S20480x2x3584, .bf16⟩
  | .hbm, ⟨81, _⟩ => ⟨S20480x2x3584, .bf16⟩
  | .hbm, ⟨82, _⟩ => ⟨S_, .bf16⟩
  | .hbm, ⟨83, _⟩ => ⟨S_, .bf16⟩
  | .hbm, ⟨84, _⟩ => ⟨S20480x2x3584, .bf16⟩
  | .hbm, ⟨85, _⟩ => ⟨S20480x2x3584, .bf16⟩
  | .hbm, ⟨86, _⟩ => ⟨S20480x2x3584, .bf16⟩
  | .hbm, ⟨87, _⟩ => ⟨S_, .bf16⟩
  | .hbm, ⟨88, _⟩ => ⟨S_, .bf16⟩
  | .hbm, ⟨89, _⟩ => ⟨S20480x2x3584, .bf16⟩
  | .hbm, ⟨90, _⟩ => ⟨S20480x2x3584, .bf16⟩
  | .hbm, ⟨91, _⟩ => ⟨S20480x2x3584, .bf16⟩
  | .hbm, ⟨92, _⟩ => ⟨S_, .bf16⟩
  | .hbm, ⟨93, _⟩ => ⟨S_, .bf16⟩
  | .hbm, ⟨94, _⟩ => ⟨S20480x2x3584, .bf16⟩
  | .hbm, ⟨95, _⟩ => ⟨S20480x2x3584, .bf16⟩
  | .hbm, ⟨96, _⟩ => ⟨S20480x2x3584, .bf16⟩
  | .hbm, ⟨97, _⟩ => ⟨S20480x2x3584, .bf16⟩
  | .hbm, ⟨98, _⟩ => ⟨S20480x2x3584, .bf16⟩
  | .hbm, ⟨99, _⟩ => ⟨S20480x2x3584, .bf16⟩
  | .hbm, ⟨100, _⟩ => ⟨S20480x2x3584, .bf16⟩
  | .hbm, ⟨101, _⟩ => ⟨S20480x2x3584, .bf16⟩
  | .hbm, ⟨102, _⟩ => ⟨S20480x2x3584, .bf16⟩
  | .hbm, ⟨103, _⟩ => ⟨S20480x2x3584, .bf16⟩
  | .hbm, ⟨104, _⟩ => ⟨S20480x2x112x32, .bf16⟩
  | .hbm, ⟨105, _⟩ => ⟨S20480x1x112x1, .bf16⟩
  | .hbm, ⟨106, _⟩ => ⟨S20480x2x112x32, .bf16⟩
  | .hbm, ⟨107, _⟩ => ⟨S20480x2x112x32, .bf16⟩
  | .hbm, ⟨108, _⟩ => ⟨S20480x2x3584, .bf16⟩
  | .hbm, ⟨109, _⟩ => ⟨S2x896x3584x2, .bf16⟩
  | .hbm, ⟨110, _⟩ => ⟨S2x896x20480, .f32⟩
  | .hbm, ⟨111, _⟩ => ⟨S2x896x16, .f32⟩
  | .hbm, ⟨112, _⟩ => ⟨S2x896x16, .bf16⟩
  | .hbm, ⟨113, _⟩ => ⟨S2x896x20480, .f32⟩
  | .hbm, ⟨114, _⟩ => ⟨S_, .f32⟩
  | .hbm, ⟨115, _⟩ => ⟨S2x896x20480, .f32⟩
  | .hbm, ⟨116, _⟩ => ⟨S2x896x20480, .f32⟩
  | .hbm, ⟨117, _⟩ => ⟨S2x896x20480, .f32⟩
  | .hbm, ⟨118, _⟩ => ⟨S2x896x20480, .bf16⟩
  | _, _ => ⟨S2x896x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_cst : Ref sig .tc := ⟨.hbm, 57, rfl⟩
abbrev main_cst_10 : Ref sig .tc := ⟨.hbm, 58, rfl⟩
abbrev main_call0_v0 : Ref sig .tc := ⟨.hbm, 59, rfl⟩
abbrev main_call0_v1 : Ref sig .tc := ⟨.hbm, 60, rfl⟩
abbrev main_v39 : Ref sig .tc := ⟨.hbm, 61, rfl⟩
abbrev main_cst_11 : Ref sig .tc := ⟨.hbm, 62, rfl⟩
abbrev main_cst_12 : Ref sig .tc := ⟨.hbm, 63, rfl⟩
abbrev main_call1_v0 : Ref sig .tc := ⟨.hbm, 64, rfl⟩
abbrev main_call1_v1 : Ref sig .tc := ⟨.hbm, 65, rfl⟩
abbrev main_v40 : Ref sig .tc := ⟨.hbm, 66, rfl⟩
abbrev main_cst_13 : Ref sig .tc := ⟨.hbm, 67, rfl⟩
abbrev main_cst_14 : Ref sig .tc := ⟨.hbm, 68, rfl⟩
abbrev main_call2_v0 : Ref sig .tc := ⟨.hbm, 69, rfl⟩
abbrev main_call2_v1 : Ref sig .tc := ⟨.hbm, 70, rfl⟩
abbrev main_v41 : Ref sig .tc := ⟨.hbm, 71, rfl⟩
abbrev main_cst_15 : Ref sig .tc := ⟨.hbm, 72, rfl⟩
abbrev main_cst_16 : Ref sig .tc := ⟨.hbm, 73, rfl⟩
abbrev main_call3_v0 : Ref sig .tc := ⟨.hbm, 74, rfl⟩
abbrev main_call3_v1 : Ref sig .tc := ⟨.hbm, 75, rfl⟩
abbrev main_v42 : Ref sig .tc := ⟨.hbm, 76, rfl⟩
abbrev main_cst_17 : Ref sig .tc := ⟨.hbm, 77, rfl⟩
abbrev main_cst_18 : Ref sig .tc := ⟨.hbm, 78, rfl⟩
abbrev main_call4_v0 : Ref sig .tc := ⟨.hbm, 79, rfl⟩
abbrev main_call4_v1 : Ref sig .tc := ⟨.hbm, 80, rfl⟩
abbrev main_v43 : Ref sig .tc := ⟨.hbm, 81, rfl⟩
abbrev main_cst_19 : Ref sig .tc := ⟨.hbm, 82, rfl⟩
abbrev main_cst_20 : Ref sig .tc := ⟨.hbm, 83, rfl⟩
abbrev main_call5_v0 : Ref sig .tc := ⟨.hbm, 84, rfl⟩
abbrev main_call5_v1 : Ref sig .tc := ⟨.hbm, 85, rfl⟩
abbrev main_v44 : Ref sig .tc := ⟨.hbm, 86, rfl⟩
abbrev main_cst_21 : Ref sig .tc := ⟨.hbm, 87, rfl⟩
abbrev main_cst_22 : Ref sig .tc := ⟨.hbm, 88, rfl⟩
abbrev main_call6_v0 : Ref sig .tc := ⟨.hbm, 89, rfl⟩
abbrev main_call6_v1 : Ref sig .tc := ⟨.hbm, 90, rfl⟩
abbrev main_v45 : Ref sig .tc := ⟨.hbm, 91, rfl⟩
abbrev main_cst_23 : Ref sig .tc := ⟨.hbm, 92, rfl⟩
abbrev main_cst_24 : Ref sig .tc := ⟨.hbm, 93, rfl⟩
abbrev main_call7_v0 : Ref sig .tc := ⟨.hbm, 94, rfl⟩
abbrev main_call7_v1 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst_25 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩

abbrev nD : Nat := 1
abbrev τ : Topo := Topo.v7x

variable {F : FTy → Type} [FloatOps F]
-- ==== Proof.Run.lean ====
/- The kernel's run with its result named: every fair execution ends with the result array at the last boundary's contents and
   the arguments as launched. -/
module

public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxRecDepth 16384

variable (m : (ℓ : Loc nD τ sig) → Buf (Elt F) ℓ) (ρ : Dev nD → PrngReg)

set_option backward.isDefEq.respectTransparency.types false in
/-- The frame's run with the result kept: the last thread state is read against the final state at the result's buffer too. -/
theorem run : θ_run defs (onTc (τ := τ) (main (F := F))) ⟨m, fun _ => 0, ρ⟩ (fun r => (∀ c : Dev nD,
      r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Hand
-- ==== Proof.Word.lean ====
/- One 128-lane strip of the dequantized weights: the words the kernel builds for it, read at an element. -/
module

public import proofs.«01_k».proof.Proof.Gen.KernelIdeal.Skeleton
public import Idealize.ShloMosaic.PureOps.Ideal
public import Idealize.ShloMosaic.Lib.ValueIdx
public import Idealize.ShloMosaic.Lib.BitcastPair
public import Idealize.ShloMosaic.Lib.Pipeline.Value

@[expose] public section

noncomputable section

namespace Cert.KernelIdeal.Hand

open Idealize.ShloMosaic Idealize.ShloMosaic.ValueIdx Cert.KernelIdeal.Gen

/-! ## Indices of rank 2 and 3 -/

/-- Two rank-2 indices with equal coordinates are equal. -/
theorem idx2_ext {n0 n1 : Nat} {i j : (⟨2, ![n0, n1]⟩ : Shape).Idx} (h0 : (i 0).val = (j 0).val)
    (h1 : (i 1).val = (j 1).val) : i = j := by
  funext a; match a with | ⟨0, _⟩ => exact Fin.ext h0 | ⟨1, _⟩ => exact Fin.ext h1

/-- Two rank-3 indices with equal coordinates are equal. -/
theorem idx3_ext {n0 n1 n2 : Nat} {i j : (⟨3, ![n0, n1, n2]⟩ : Shape).Idx} (h0 : (i 0).val = (j 0).val)
    (h1 : (i 1).val = (j 1).val) (h2 : (i 2).val = (j 2).val) : i = j := by
  funext a; match a with | ⟨0, _⟩ => exact Fin.ext h0 | ⟨1, _⟩ => exact Fin.ext h1 | ⟨2, _⟩ => exact Fin.ext h2

/-- Casting a matrix to one with a trailing unit axis and back changes nothing. -/
theorem cast_pair {s t : Shape} {α : Type} (v : s.Idx → α) (h : s.ShapeCasts t) (h' : t.ShapeCasts s) :
    shapeCast s (shapeCast t v h) h' = v := shapeCast_shapeCast v h h'

/-! ## The kernel's words for one strip -/

/-- A lane number with negative ones moved up by the register's width. -/
def wrapW (i : BitVec 32) : BitVec 32 := Scalar.select (IntOp.cmpi .slt i 0#32) (i + 128#32) i

/-- The lane gather of a table of words at masked lane numbers. -/
def gatherW (tab i : IVec S128x128 32) : IVec S128x128 32 :=
  dynamicGather 1 tab (shapeCast S128x128 (shapeCast S128x128x1
    (select (cmpi .slt i (broadcast S128x128 0#32)) (addi i (broadcast S128x128 128#32)) i)
    shapeCasts_S128x128_S128x128x1) shapeCasts_S128x128x1_S128x128)

/-- Row 0 of a table, on every row. -/
def tabRow (T : IVec S8x128 32) : IVec S128x128 32 :=
  broadcastTo S128x128 (shapeCast S1x128 (extractStridedSlice S1x128 ![0, 0] T slices_S8x128_o0_0_S1x128)
    shapeCasts_S1x128_S1x128) broadcasts_S1x128_S128x128

/-- The packed bytes as words, two rows to the word. -/
def packW (w : Vec Ideal S256x128 .i8) : IVec S128x128 32 :=
  bitcast S128x128 32 (extui 16 w natLt_8_16) bitcasts_S256x128_w16_S128x128_w32

/-- The table values of one nibble of every byte: the even rows' by shift `4 - 4 f` from the table, the odd rows' by shift
    `20 - 4 f` from the shifted table. -/
def nibV (T TH : IVec S8x128 32) (w : Vec Ideal S256x128 .i8) (f : Nat) : FVec Ideal S256x128 .bf16 :=
  bitcastToFloat .bf16 (bitcast S256x128 16 (ori
    (gatherW (tabRow T) (andi (shrsi (packW w) (broadcast S128x128 (BitVec.ofNat 32 (4 - 4 * f)))) (broadcast S128x128 15#32)))
    (gatherW (tabRow TH) (andi (shrsi (packW w) (broadcast S128x128 (BitVec.ofNat 32 (20 - 4 * f)))) (broadcast S128x128 15#32))))
    bitcasts_S128x128_w32_S256x128_w16)

/-- The scales of one strip: the lane gather at group number plus `k`. -/
def scaleV (A : FVec Ideal S256x128 .f32) (G : IVec S256x128 32) (k : BitVec 32) : FVec Ideal S256x128 .bf16 :=
  truncf .bf16 (dynamicGather 1 A (shapeCast S256x128 (shapeCast S256x128x1
    (select (cmpi .slt (addi G (broadcast S256x128 k)) (broadcast S256x128 0#32))
      (addi (addi G (broadcast S256x128 k)) (broadcast S256x128 128#32)) (addi G (broadcast S256x128 k)))
    shapeCasts_S256x128_S256x128x1) shapeCasts_S256x128x1_S256x128)) bitsLt_bf16_f32

/-- One strip. -/
def strip (T TH : IVec S8x128 32) (A : FVec Ideal S256x128 .f32) (G : IVec S256x128 32) (w : Vec Ideal S256x128 .i8)
    (f : Nat) (k : BitVec 32) : FVec Ideal S256x128 .bf16 :=
  shapeCast S256x128 (mulf (nibV T TH w f) (scaleV A G k)) shapeCasts_S256x128_S256x128

/-! ## Reading them -/

/-- The nibble of a byte: the high one at `f = 0`, the low one at `f = 1`. -/
def nib (f : Nat) (w : BitVec 8) : Nat := w.toNat / 2 ^ (4 - 4 * f) % 16

/-- A half-byte is below sixteen. -/
theorem nib_lt (f : Nat) (w : BitVec 8) : nib f w < 16 := Nat.mod_lt _ (by decide)

/-- The table's sixteen entries, as 16-bit words. -/
def nfBits (n : Nat) : BitVec 16 :=
  match n with
  | 0 => 49024#16 | 1 => 48946#16 | 2 => 48902#16 | 3 => 48842#16 | 4 => 48786#16 | 5 => 48701#16 | 6 => 48570#16
  | 7 => 0#16 | 8 => 15779#16 | 9 => 15909#16 | 10 => 15996#16 | 11 => 16045#16 | 12 => 16098#16 | 13 => 16144#16
  | 14 => 16185#16 | _ => 16256#16

/-- The value of entry `n`. -/
def nf (n : Nat) : EReal := Ideal.ofBits .bf16 (nfBits n)

/-- A word below `2 ^ 31` is kept by the wrap. -/
theorem wrapW_of_lt {i : BitVec 32} (h : i.toNat < 2 ^ 31) : wrapW i = i := by
  unfold wrapW
  have : IntOp.cmpi .slt i 0#32 = 0#1 := by
    unfold IntOp.cmpi
    have h0 : i.slt 0#32 = false := by
      rw [BitVec.slt_eq_decide, decide_eq_false_iff_not]
      have : (0#32 : BitVec 32).toInt = 0 := by decide
      rw [this, BitVec.toInt_eq_toNat_of_lt (by omega)]
      omega
    simp [h0]
  rw [this]; rfl

/-- A gather along lanes reads the lane its index names. -/
theorem gatherW_apply (tab i : IVec S128x128 32) (x : S128x128.Idx) (n : Nat) (hn : n < 128) (h : (i x).toNat = n) :
    gatherW tab i x = tab (ix2 (x 0) ⟨n, hn⟩) := by
  unfold gatherW
  rw [cast_pair]
  unfold dynamicGather
  have e : select (cmpi .slt i (broadcast S128x128 0#32)) (addi i (broadcast S128x128 128#32)) i x = i x :=
    wrapW_of_lt (i := i x) (by omega)
  refine congrArg tab (idx2_ext (by rfl) ?_)
  show (select (cmpi .slt i (broadcast S128x128 0#32)) (addi i (broadcast S128x128 128#32)) i x).toNat % 128 = n
  rw [e]
  omega

/-- The broadcast table has its first row everywhere. -/
theorem tabRow_apply (T : IVec S8x128 32) (x : S128x128.Idx) : tabRow T x = T (ix2 0 (x 1)) := by
  unfold tabRow
  rw [shapeCast_self]
  rw [broadcastTo_apply _ _ _ (ix2 0 (x 1) : S1x128.Idx)
    (fun a => by match a with | ⟨0, _⟩ => rfl | ⟨1, _⟩ => rfl)]
  rw [extractStridedSlice_apply _ _ _ _ (ix2 0 (x 1) : S8x128.Idx)
    (fun a => by match a with | ⟨0, _⟩ => rfl | ⟨1, _⟩ => simp)]

/-- The word of rows `2r` and `2r + 1`. -/
theorem packW_apply (w : Vec Ideal S256x128 .i8) (x : S128x128.Idx) (h0 : 2 * (x 0).val < 256) (h1 : 2 * (x 0).val + 1 < 256) :
    (packW w x).toNat = (w (ix2 ⟨2 * (x 0).val + 1, h1⟩ (x 1)) : BitVec 8).toNat * 65536
      + (w (ix2 ⟨2 * (x 0).val, h0⟩ (x 1)) : BitVec 8).toNat := by
  unfold packW
  rw [bitcast_16_32]
  rw [BitVec.toNat_append]
  have e1 : extui 16 w natLt_8_16 (Shape.Bitcasts.srcIdx bitcasts_S256x128_w16_S128x128_w32 x (2 * S128x128.row x + 1)
      (Shape.Bitcasts.pair_lt bitcasts_S256x128_w16_S128x128_w32 x 1 (by decide)))
      = ((w (ix2 ⟨2 * (x 0).val + 1, h1⟩ (x 1)) : BitVec 8)).setWidth 16 :=
    congrArg (fun i => BitVec.setWidth 16 (w i : BitVec 8)) (idx2_ext rfl rfl)
  have e0 : extui 16 w natLt_8_16 (Shape.Bitcasts.srcIdx bitcasts_S256x128_w16_S128x128_w32 x (2 * S128x128.row x)
      (by simpa using Shape.Bitcasts.pair_lt bitcasts_S256x128_w16_S128x128_w32 x 0 (by decide)))
      = ((w (ix2 ⟨2 * (x 0).val, h0⟩ (x 1)) : BitVec 8)).setWidth 16 :=
    congrArg (fun i => BitVec.setWidth 16 (w i : BitVec 8)) (idx2_ext rfl rfl)
  rw [e1, e0]
  generalize (w (ix2 ⟨2 * (x 0).val + 1, h1⟩ (x 1)) : BitVec 8) = hi
  generalize (w (ix2 ⟨2 * (x 0).val, h0⟩ (x 1)) : BitVec 8) = lo
  have := hi.isLt
  have := lo.isLt
  rw [BitVec.toNat_setWidth, BitVec.toNat_setWidth, Nat.mod_eq_of_lt (by omega), Nat.mod_eq_of_lt (by omega),
    ← Nat.shiftLeft_add_eq_or_of_lt (by omega), Nat.shiftLeft_eq]

/-- A shifted and masked nonnegative word as a number. -/
theorem shr_mask {u : ArithUnit} (v : BitVec 32) (a : Nat) (ha : a < 32) (hv : v.toNat < 2 ^ 31) :
    (IntOp.shrsi u v (BitVec.ofNat 32 a) &&& 15#32).toNat = v.toNat / 2 ^ a % 16 := by
  have ha' : (BitVec.ofNat 32 a).toNat = a := by rw [BitVec.toNat_ofNat]; omega
  unfold IntOp.shrsi
  rw [if_pos (by rw [ha']; exact ha), BitVec.sshiftRight', BitVec.sshiftRight_eq_of_msb_false (BitVec.msb_eq_false_iff_two_mul_lt.2 (by omega)), ha',
    BitVec.toNat_and, BitVec.toNat_ushiftRight, Nat.shiftRight_eq_div_pow]
  exact Nat.and_two_pow_sub_one_eq_mod _ 4

/-- The half-word `16 * p` of a table entry below `2 ^ 16` or'ed with another one shifted up by 16. -/
theorem half_or (u v : BitVec 32) (hu : u.toNat < 65536) (hv : v.toNat < 65536) (p : Nat) (hp : p < 2) :
    (u ||| (IntOp.shli .vector v 16#32)).extractLsb' (16 * p) 16 = (if p = 0 then u else v).setWidth 16 := by
  have hs : IntOp.shli .vector v 16#32 = v <<< 16 := by
    unfold IntOp.shli; rw [if_pos (by decide)]; rfl
  rw [hs]
  apply BitVec.eq_of_toNat_eq
  have hsh : v.toNat <<< 16 % 2 ^ 32 = v.toNat <<< 16 := Nat.mod_eq_of_lt (by rw [Nat.shiftLeft_eq]; omega)
  have hor : u.toNat ||| v.toNat <<< 16 = v.toNat * 2 ^ 16 + u.toNat := by
    rw [Nat.or_comm, ← Nat.shiftLeft_add_eq_or_of_lt (show u.toNat < 2 ^ 16 by omega), Nat.shiftLeft_eq]
  rw [BitVec.extractLsb'_toNat, BitVec.toNat_or, BitVec.toNat_setWidth, BitVec.toNat_shiftLeft, hsh, hor,
    Nat.shiftRight_eq_div_pow]
  have : p = 0 ∨ p = 1 := by omega
  rcases this with rfl | rfl
  · rw [if_pos rfl]; omega
  · rw [if_neg (by decide)]; omega

/-- The nibble values at an element, for a table that holds the sixteen entries in row 0. -/
theorem nibV_apply (T TH : IVec S8x128 32) (w : Vec Ideal S256x128 .i8) (f : Nat) (hf : f < 2)
    (hT : ∀ (n : Nat) (h : n < 128), n < 16 → T (ix2 0 ⟨n, h⟩) = (nfBits n).setWidth 32)
    (hTH : ∀ x, TH x = IntOp.shli .vector (T x) 16#32) (x : S256x128.Idx) :
    nibV T TH w f x = nf (nib f (w x)) := by
  have hx0 : (x 0).val < 256 := (x 0).isLt
  have hr : (x 0).val / 2 < 128 := by omega
  let r : S128x128.Idx := ix2 ⟨(x 0).val / 2, hr⟩ (x 1)
  have h0 : 2 * (r 0).val < 256 := by show 2 * ((x 0).val / 2) < 256; omega
  have h1 : 2 * (r 0).val + 1 < 256 := by show 2 * ((x 0).val / 2) + 1 < 256; omega
  have hp := packW_apply w r h0 h1
  generalize hhi : (w (ix2 ⟨2 * (r 0).val + 1, h1⟩ (r 1)) : BitVec 8) = hi at hp
  generalize hlo : (w (ix2 ⟨2 * (r 0).val, h0⟩ (r 1)) : BitVec 8) = lo at hp
  have hhilt := hi.isLt
  have hlolt := lo.isLt
  have elo : (andi (shrsi (packW w) (broadcast S128x128 (BitVec.ofNat 32 (4 - 4 * f)))) (broadcast S128x128 15#32) r).toNat
      = nib f lo := by
    refine (shr_mask (packW w r) (4 - 4 * f) (by omega) (by omega)).trans ?_
    rw [hp]; unfold nib
    have : f = 0 ∨ f = 1 := by omega
    rcases this with rfl | rfl <;> norm_num <;> omega
  have ehi : (andi (shrsi (packW w) (broadcast S128x128 (BitVec.ofNat 32 (20 - 4 * f)))) (broadcast S128x128 15#32) r).toNat
      = nib f hi := by
    refine (shr_mask (packW w r) (20 - 4 * f) (by omega) (by omega)).trans ?_
    rw [hp]; unfold nib
    have : f = 0 ∨ f = 1 := by omega
    rcases this with rfl | rfl <;> norm_num <;> omega
  have nlo := nib_lt f lo
  have nhi := nib_lt f hi
  have key : bitcast S256x128 16 (ori
      (gatherW (tabRow T) (andi (shrsi (packW w) (broadcast S128x128 (BitVec.ofNat 32 (4 - 4 * f)))) (broadcast S128x128 15#32)))
      (gatherW (tabRow TH) (andi (shrsi (packW w) (broadcast S128x128 (BitVec.ofNat 32 (20 - 4 * f)))) (broadcast S128x128 15#32))))
      bitcasts_S128x128_w32_S256x128_w16 x = nfBits (nib f (w x)) := by
    rw [bitcast_32_16, Shape.Bitcasts.srcIdx_congr _ _ (show S256x128.row x / 2 = (x 0).val / 2 from rfl) _
      (fun a ha => by match a with | ⟨0, _⟩ => exact hr)]
    have er : Shape.Bitcasts.srcIdx bitcasts_S128x128_w32_S256x128_w16 x ((x 0).val / 2)
        (fun a ha => by match a with | ⟨0, _⟩ => exact hr) = r := idx2_ext rfl rfl
    rw [er]
    show (BitVec.or _ _).extractLsb' (16 * ((x 0).val % 2)) 16 = _
    rw [gatherW_apply _ _ r (nib f lo) (by omega) elo, gatherW_apply _ _ r (nib f hi) (by omega) ehi, tabRow_apply,
      tabRow_apply]
    show (T (ix2 0 ⟨nib f lo, _⟩) ||| TH (ix2 0 ⟨nib f hi, _⟩)).extractLsb' (16 * ((x 0).val % 2)) 16 = _
    have hb : ∀ n, ((nfBits n).setWidth 32).toNat < 65536 := fun n => by
      have := (nfBits n).isLt
      rw [BitVec.toNat_setWidth]; omega
    have hs : ∀ n, ((nfBits n).setWidth 32).setWidth 16 = nfBits n := fun n => by
      apply BitVec.eq_of_toNat_eq
      have := (nfBits n).isLt
      rw [BitVec.toNat_setWidth, BitVec.toNat_setWidth]; omega
    rw [hTH, hT _ _ nlo, hT _ _ nhi, half_or _ _ (hb _) (hb _) _ (by omega)]
    by_cases hpar : (x 0).val % 2 = 0
    · rw [if_pos hpar, hs, ← hlo]
      congr 2
      exact congrArg w (idx2_ext (by show 2 * ((x 0).val / 2) = (x 0).val; omega) rfl)
    · rw [if_neg hpar, hs, ← hhi]
      congr 2
      exact congrArg w (idx2_ext (by show 2 * ((x 0).val / 2) + 1 = (x 0).val; omega) rfl)
  exact congrArg (Ideal.ofBits .bf16) key

/-- The scales at an element, for group numbers that count 32 lanes to the group. -/
theorem scaleV_apply (A : FVec Ideal S256x128 .f32) (G : IVec S256x128 32) (k : Nat) (hk : k + 4 ≤ 128)
    (hG : ∀ x : S256x128.Idx, G x = BitVec.ofNat 32 ((x 1).val / 32)) (x : S256x128.Idx) (h : k + (x 1).val / 32 < 128) :
    scaleV A G (BitVec.ofNat 32 k) x = A (ix2 (x 0) ⟨k + (x 1).val / 32, h⟩) := by
  have hx : (x 1).val < 128 := (x 1).isLt
  unfold scaleV
  rw [cast_pair]
  refine congrArg A (idx2_ext (by rfl) ?_)
  have e : (addi G (broadcast S256x128 (BitVec.ofNat 32 k)) x).toNat = k + (x 1).val / 32 := by
    show (G x + BitVec.ofNat 32 k).toNat = _
    rw [hG, BitVec.toNat_add, BitVec.toNat_ofNat, BitVec.toNat_ofNat]
    omega
  show (wrapW (addi G (broadcast S256x128 (BitVec.ofNat 32 k)) x)).toNat % 128 = k + (x 1).val / 32
  rw [wrapW_of_lt (by omega), e]
  omega

/-- A strip at an element. -/
theorem strip_apply (T TH : IVec S8x128 32) (A : FVec Ideal S256x128 .f32) (G : IVec S256x128 32) (w : Vec Ideal S256x128 .i8)
    (f : Nat) (hf : f < 2) (k : Nat) (hk : k + 4 ≤ 128)
    (hT : ∀ (n : Nat) (h : n < 128), n < 16 → T (ix2 0 ⟨n, h⟩) = (nfBits n).setWidth 32)
    (hTH : ∀ x, TH x = IntOp.shli .vector (T x) 16#32)
    (hG : ∀ x : S256x128.Idx, G x = BitVec.ofNat 32 ((x 1).val / 32)) (x : S256x128.Idx) (h : k + (x 1).val / 32 < 128) :
    strip T TH A G w f (BitVec.ofNat 32 k) x = nf (nib f (w x)) * A (ix2 (x 0) ⟨k + (x 1).val / 32, h⟩) := by
  unfold strip
  rw [shapeCast_self, mulf_apply, nibV_apply T TH w f hf hT hTH, scaleV_apply A G k hk hG x h]

end Cert.KernelIdeal.Hand
-- ==== Proof.RefValue.lean ====
module

public import proofs.«01_k».proof.Proof.Gen.ReferenceIdeal.Read
public import proofs.«01_k».proof.Proof.Word
public import Idealize.ShloMosaic.Lib.Pointwise.Contract

@[expose] public section
set_option maxRecDepth 16384

/-! The reference's result at one element, as a formula over its arguments. -/

noncomputable section

namespace Cert.ReferenceIdeal.Hand

open Idealize.ShloMosaic hiding ix0 ix1 ix2 ix3 ix4
open Idealize.ShloMosaic.TcCoe Idealize.ShloMosaic.ValueIdx Cert.ReferenceIdeal Cert.ReferenceIdeal.Gen Cert.ReferenceIdeal.Read
open Cert.KernelIdeal.Hand

/-- The reference's table of sixteen values, as it looks a word up: four levels of choices on the word's low four bits. -/
def lookup (q : BitVec 32) : EReal :=
  let bit (v : BitVec 32) : BitVec 1 := IntOp.cmpi .ne (IntOp.andi q v) 0#32
  let pair (hi lo : BitVec 16) : EReal := Scalar.select (bit 1#32) (Ideal.ofBits .bf16 hi) (Ideal.ofBits .bf16 lo)
  Scalar.select (bit 8#32)
    (Scalar.select (bit 4#32)
      (Scalar.select (bit 2#32) (pair 0x3F80#16 0x3F39#16) (pair 0x3F10#16 0x3EE2#16))
      (Scalar.select (bit 2#32) (pair 0x3EAD#16 0x3E7C#16) (pair 0x3E25#16 0x3DA3#16)))
    (Scalar.select (bit 4#32)
      (Scalar.select (bit 2#32) (pair 0x0000#16 0xBDBA#16) (pair 0xBE3D#16 0xBE92#16))
      (Scalar.select (bit 2#32) (pair 0xBECA#16 0xBF06#16) (pair 0xBF32#16 0xBF80#16)))

/-- On a word below sixteen the choices give the table's entry. -/
theorem lookup_eq (q : BitVec 32) (n : Nat) (hn : n < 16) (hq : q.toNat = n) : lookup q = nf n := by
  have : q = BitVec.ofNat 32 n := by
    apply BitVec.eq_of_toNat_eq
    rw [hq, BitVec.toNat_ofNat]; omega
  subst this
  clear hq
  interval_cases n <;> rfl

/-- The reference's code of one column: the wanted half of the byte. -/
theorem code_eq (x1 : (⟨S20480x3584, .i8⟩ : BufTy).Contents (Elt Ideal)) (o : Fin 20480) (f : Fin 2) (k : Fin 3584) :
    (val_main_v22 (F := Ideal) x1 (ix3 o f k) : BitVec 32).toNat = nib f.val (x1 (ix2 o k) : BitVec 8) := by
  have hw : val_main_v18 (F := Ideal) x1 (ix3 o f k) = (x1 (ix2 o k) : BitVec 8).setWidth 32 := by
    rw [val_main_v18_apply, val_main_v16_apply, val_main_v15_apply]
    exact congrArg (fun j => (x1 j : BitVec 8).setWidth 32) (idx2_ext rfl rfl)
  have hs : val_main_v19 (F := Ideal) (ix3 o f k) = BitVec.ofNat 32 (4 - 4 * f.val) := by
    rw [val_main_v19_apply, val_main_v17_apply, val_main_v14_apply, val_main_v13_apply, val_main_v12_apply, val_main_v11_apply, val_main_v10_apply]
    exact (show ∀ f : Fin 2, IntOp.muli 4#32 (IntOp.subi 1#32 (BitVec.ofNat 32 f.val)) = BitVec.ofNat 32 (4 - 4 * f.val) by decide) f
  have hlt := (x1 (ix2 o k) : BitVec 8).isLt
  have e : ((x1 (ix2 o k) : BitVec 8).setWidth 32).toNat = (x1 (ix2 o k) : BitVec 8).toNat := by
    rw [BitVec.toNat_setWidth]; omega
  rw [val_main_v22_apply, val_main_v20_apply, hw, hs, val_main_v21_apply]
  refine (shr_mask _ (4 - 4 * f.val) (by omega) (by omega)).trans ?_
  rw [e]; rfl

/-- The reference's choices at one element. -/
theorem table_apply (x1 : (⟨S20480x3584, .i8⟩ : BufTy).Contents (Elt Ideal)) (o : Fin 20480) (f : Fin 2) (k : Fin 3584) :
    (val_main_v53 (F := Ideal) x1 (ix3 o f k) : EReal) = nf (nib f.val (x1 (ix2 o k) : BitVec 8)) := by
  have h : (val_main_v53 (F := Ideal) x1 (ix3 o f k) : EReal) = lookup (val_main_v22 (F := Ideal) x1 (ix3 o f k)) := rfl
  rw [h]
  exact lookup_eq _ _ (nib_lt _ _) (code_eq x1 o f k)

/-- The block scale the reference restores. -/
def absmaxAt (codes : Vec Ideal S20480x112 .i8) (scales : Vec Ideal S8960 .f32) (off : Vec Ideal S_ .f32) (o : Fin 20480) (g : Fin 112) : EReal :=
  (FloatOps.sitofp (F := Ideal) .f32 (codes (ix2 o g) : BitVec 8) : EReal)
    * scales (ix1 ⟨(112 * o.val + g.val) / 256, by have := o.isLt; have := g.isLt; omega⟩) + off ix0

/-- Widening a signed word does not change the number it stands for. -/
theorem sitofp_widen (c : BitVec 8) :
    (FloatOps.sitofp (F := Ideal) .f32 (c.signExtend 32) : EReal) = FloatOps.sitofp (F := Ideal) .f32 c := by
  show (((c.signExtend 32).toInt : ℝ) : EReal) = ((c.toInt : ℝ) : EReal)
  rw [BitVec.toInt_signExtend_of_le (by omega)]

/-- The reference's block scales at one element. -/
theorem absmax_apply (x2 : (⟨S20480x112, .i8⟩ : BufTy).Contents (Elt Ideal)) (x3 : (⟨S8960, .f32⟩ : BufTy).Contents (Elt Ideal))
    (x4 : (⟨S_, .f32⟩ : BufTy).Contents (Elt Ideal)) (o : Fin 20480) (g : Fin 112) :
    (val_main_v9 (F := Ideal) x2 x3 x4 (ix2 o g) : EReal) = absmaxAt x2 x3 x4 o g := by
  rw [val_main_v9_apply, val_main_v8_apply, val_main_v7_apply, val_main_v5_apply, val_main_v2_apply, val_main_v1_apply, val_main_v0_apply,
    val_main_v4_apply, val_main_v3_apply, val_main_v6_apply]
  have ho := o.isLt
  have hg := g.isLt
  have e0 : idx_main_v0 (idx_main_v8 (ix2 o g)) = ix2 o g := idx2_ext
    (by show (((o.val * 112 + g.val) / 256) * 256 + (o.val * 112 + g.val) % 256) / 112 = o.val; omega)
    (by show (((o.val * 112 + g.val) / 256) * 256 + (o.val * 112 + g.val) % 256) % 112 = g.val; omega)
  have e3 : idx_main_v3 (idx_main_v4 (idx_main_v8 (ix2 o g)))
      = ix1 ⟨(112 * o.val + g.val) / 256, by omega⟩ := funext fun a => by
    fin_cases a
    exact Fin.ext (by show (o.val * 112 + g.val) / 256 = (112 * o.val + g.val) / 256; omega)
  have e6 : idx_main_v6 (idx_main_v8 (ix2 o g)) = ix0 := funext fun a => a.elim0
  rw [e0, e3, e6]
  show (FloatOps.sitofp (F := Ideal) .f32 ((x2 (ix2 o g) : BitVec 8).signExtend 32) : EReal) * _ + _ = _
  rw [sitofp_widen]; rfl

/-- The restored weight at one element. -/
theorem weight_apply (x1 : (⟨S20480x3584, .i8⟩ : BufTy).Contents (Elt Ideal)) (x2 : (⟨S20480x112, .i8⟩ : BufTy).Contents (Elt Ideal))
    (x3 : (⟨S8960, .f32⟩ : BufTy).Contents (Elt Ideal)) (x4 : (⟨S_, .f32⟩ : BufTy).Contents (Elt Ideal)) (o : Fin 20480) (f : Fin 2) (k : Fin 3584) :
    (val_main_v58 (F := Ideal) x1 x2 x3 x4 (ix3 o f k) : EReal)
      = nf (nib f.val (x1 (ix2 o k) : BitVec 8)) * absmaxAt x2 x3 x4 o ⟨k.val / 32, by have := k.isLt; omega⟩ := by
  have ho := o.isLt
  have hf := f.isLt
  have hk := k.isLt
  rw [val_main_v58_apply, val_main_v57_apply, val_main_v54_apply, val_main_v56_apply, val_main_v55_apply]
  have e54 : idx_main_v54 (idx_main_v58 (ix3 o f k)) = ix3 o f k := by
    refine idx3_ext ?_ ?_ ?_
    all_goals (dsimp [idx_main_v54, idx_main_v58, ix3]; omega)
  have e55 : idx_main_v55 (idx_main_v56 (idx_main_v58 (ix3 o f k))) = ix2 o ⟨k.val / 32, by omega⟩ := by
    refine idx2_ext ?_ ?_
    all_goals (dsimp [idx_main_v55, idx_main_v56, idx_main_v58, ix3, ix2]; omega)
  rw [e54, e55]
  show (val_main_v53 (F := Ideal) x1 (ix3 o f k) : EReal) * (val_main_v9 (F := Ideal) x2 x3 x4 (ix2 o ⟨k.val / 32, by omega⟩) : EReal) = _
  rw [table_apply, absmax_apply]

/-- The reference's result at one element. -/
def referenceAt (x : Vec Ideal S2x896x7168 .bf16) (w : Vec Ideal S20480x3584 .i8) (codes : Vec Ideal S20480x112 .i8) (scales : Vec Ideal S8960 .f32)
    (off : Vec Ideal S_ .f32) (la : Vec Ideal S16x7168 .bf16) (lb : Vec Ideal S20480x16 .bf16) (b : Fin 2) (s : Fin 896) (o : Fin 20480) : EReal :=
  (∑ f : Fin 2, ∑ k : Fin 3584, (x (ix3 b s ⟨2 * k.val + f.val, by have := k.isLt; have := f.isLt; omega⟩) : EReal)
      * (nf (nib f.val (w (ix2 o k) : BitVec 8)) * absmaxAt codes scales off o ⟨k.val / 32, by have := k.isLt; omega⟩))
    + 2 * ∑ r : Fin 16, (∑ k : Fin 7168, (x (ix3 b s k) : EReal) * la (ix2 r k)) * lb (ix2 o r)

/-- The reference's factor is two. -/
theorem two_f32 : Ideal.ofBits .f32 0x40000000#32 = 2 := by
  simp [Ideal.ofBits, Ideal.ieee, -EReal.coe_mul]; norm_num
  rfl

/-- The main product at one element. -/
theorem main_apply (x0 : (⟨S2x896x7168, .bf16⟩ : BufTy).Contents (Elt Ideal)) (x1 : (⟨S20480x3584, .i8⟩ : BufTy).Contents (Elt Ideal))
    (x2 : (⟨S20480x112, .i8⟩ : BufTy).Contents (Elt Ideal)) (x3 : (⟨S8960, .f32⟩ : BufTy).Contents (Elt Ideal))
    (x4 : (⟨S_, .f32⟩ : BufTy).Contents (Elt Ideal)) (b : Fin 2) (s : Fin 896) (o : Fin 20480) :
    (val_main_v60 (F := Ideal) x0 x1 x2 x3 x4 (ix3 b s o) : EReal)
      = ∑ f : Fin 2, ∑ k : Fin 3584, (x0 (ix3 b s ⟨2 * k.val + f.val, by have := k.isLt; have := f.isLt; omega⟩) : EReal)
          * (nf (nib f.val (x1 (ix2 o k) : BitVec 8)) * absmaxAt x2 x3 x4 o ⟨k.val / 32, by have := k.isLt; omega⟩) := by
  have e1 := Ideal.matmul_apply₂_of dot_S2x896x3584x2_S20480x2x3584_S2x896x20480_32_12_01_0_n_n (a := 3) (b := 2) rfl (K₁ := 2) (K₂ := 3584) rfl rfl
    (val_main_v59 (F := Ideal) x0) (val_main_v58 (F := Ideal) x1 x2 x3 x4) (fun _ => 0) (ix3 b s o)
    (fun f k => ix4 b s k f) (fun f k => ix3 o f k)
    (fun f k => funext fun a => by fin_cases a <;> rfl) (fun f k => idx3_ext rfl rfl rfl)
  unfold val_main_v60
  show Ideal.matmul _ _ _ (fun _ => 0) (ix3 b s o) = _
  rw [e1, zero_add]
  refine congrArg (fun g : Fin 2 → EReal => ∑ f, g f) (funext fun f => ?_)
  refine congrArg (fun g : Fin 3584 → EReal => ∑ k, g k) (funext fun k => ?_)
  have hb := b.isLt
  have hs := s.isLt
  have hf := f.isLt
  have hk := k.isLt
  have e59 : idx_main_v59 (ix4 b s k f) = ix3 b s ⟨2 * k.val + f.val, by omega⟩ := by
    refine idx3_ext ?_ ?_ ?_
    all_goals (dsimp [idx_main_v59, ix3, ix4]; omega)
  rw [val_main_v59_apply, e59, weight_apply]

/-- The reference's result buffer at one element. -/
theorem result_apply (x0 : (⟨S2x896x7168, .bf16⟩ : BufTy).Contents (Elt Ideal)) (x1 : (⟨S20480x3584, .i8⟩ : BufTy).Contents (Elt Ideal))
    (x2 : (⟨S20480x112, .i8⟩ : BufTy).Contents (Elt Ideal)) (x3 : (⟨S8960, .f32⟩ : BufTy).Contents (Elt Ideal))
    (x4 : (⟨S_, .f32⟩ : BufTy).Contents (Elt Ideal)) (x5 : (⟨S16x7168, .bf16⟩ : BufTy).Contents (Elt Ideal))
    (x6 : (⟨S20480x16, .bf16⟩ : BufTy).Contents (Elt Ideal)) (b : Fin 2) (s : Fin 896) (o : Fin 20480) :
    (val_main_v67 (F := Ideal) x0 x1 x2 x3 x4 x5 x6 (ix3 b s o) : EReal) = referenceAt x0 x1 x2 x3 x4 x5 x6 b s o := by
  rw [val_main_v67_apply, val_main_v66_apply, val_main_v65_apply, val_main_v64_apply, val_main_v63_apply]
  show (val_main_v60 (F := Ideal) x0 x1 x2 x3 x4 (ix3 b s o) : EReal)
    + Ideal.ofBits .f32 0x40000000#32 * (∑ r : Fin 16, (val_main_v61 (F := Ideal) x0 x5 (lidx_main_v63 (ix3 b s o) r) : EReal)
        * x6 (ridx_main_v63 (ix3 b s o) r)) = _
  rw [main_apply, two_f32]
  unfold referenceAt
  refine congrArg (fun t : EReal => _ + 2 * t) ?_
  refine congrArg (fun g : Fin 16 → EReal => ∑ r, g r) (funext fun r => ?_)
  have e6 : ridx_main_v63 (ix3 b s o) r = ix2 o r := idx2_ext rfl rfl
  rw [val_main_v61_apply, e6]
  refine congrArg (fun t : EReal => t * _) ?_
  refine congrArg (fun g : Fin 7168 → EReal => ∑ k, g k) (funext fun k => ?_)
  have el : lidx_main_v61 (lidx_main_v63 (ix3 b s o) r) k = ix3 b s k := idx3_ext rfl rfl rfl
  have er : ridx_main_v61 (lidx_main_v63 (ix3 b s o) r) k = ix2 r k := idx2_ext rfl rfl
  rw [el, er]

end Cert.ReferenceIdeal.Hand
-- ==== Proof.Scale.lean ====
/- The block scales of one weight tile: the matrix the kernel builds from the codes, read at an element. -/
module

public import proofs.«01_k».proof.Proof.Word

@[expose] public section

noncomputable section

namespace Cert.KernelIdeal.Hand

open Idealize.ShloMosaic Idealize.ShloMosaic.ValueIdx Cert.KernelIdeal.Gen

/-! ## Floor division on words -/

/-- The sign of a word, as the kernel computes it. -/
def sgnW (v : BitVec 32) : BitVec 32 := (IntOp.cmpi .sgt v 0#32).setWidth 32 - (IntOp.cmpi .slt v 0#32).setWidth 32

/-- Division rounded down, as the kernel computes it. -/
def floorW (v d : BitVec 32) : BitVec 32 :=
  Scalar.select ((IntOp.cmpi .ne (sgnW v) (sgnW d)) &&& (IntOp.cmpi .ne (IntOp.remsi .vector v d) 0#32))
    (IntOp.divsi .vector v d - 1#32) (IntOp.divsi .vector v d)

/-- A word below `2 ^ 31` is not negative. -/
theorem slt_zero {v : BitVec 32} (h : v.toNat < 2 ^ 31) : IntOp.cmpi .slt v 0#32 = 0#1 := by
  unfold IntOp.cmpi
  have h0 : v.slt 0#32 = false := by
    rw [BitVec.slt_eq_decide, decide_eq_false_iff_not]
    have : (0#32 : BitVec 32).toInt = 0 := by decide
    rw [this, BitVec.toInt_eq_toNat_of_lt (by omega)]
    omega
  simp [h0]

/-- The sign of a positive word is one. -/
theorem sgnW_pos {v : BitVec 32} (h : v.toNat < 2 ^ 31) (h0 : 0 < v.toNat) : sgnW v = 1#32 := by
  unfold sgnW
  rw [slt_zero h]
  have : IntOp.cmpi .sgt v 0#32 = 1#1 := by
    unfold IntOp.cmpi
    have h0 : (0#32).slt v = true := by
      rw [BitVec.slt_eq_decide, decide_eq_true_iff]
      have : (0#32 : BitVec 32).toInt = 0 := by decide
      rw [this, BitVec.toInt_eq_toNat_of_lt (by omega)]
      omega
    simp [h0]
  rw [this]; decide

/-- On nonnegative words it is the division of the numbers. -/
theorem floorW_toNat {v d : BitVec 32} (hv : v.toNat < 2 ^ 31) (hd : d.toNat < 2 ^ 31) (hd0 : 0 < d.toNat) :
    (floorW v d).toNat = v.toNat / d.toNat := by
  have hc : ¬ IntOp.SDivCorner v d := by
    rintro (h | ⟨-, h⟩)
    · rw [h] at hd0; exact absurd hd0 (by decide)
    · rw [h] at hd; exact absurd hd (by decide)
  have mv : v.msb = false := BitVec.msb_eq_false_iff_two_mul_lt.2 (by omega)
  have md : d.msb = false := BitVec.msb_eq_false_iff_two_mul_lt.2 (by omega)
  have hdiv : IntOp.divsi .vector v d = v / d := by
    unfold IntOp.divsi; rw [if_neg hc, BitVec.sdiv_eq, mv, md]; rfl
  have hrem : IntOp.remsi .vector v d = v % d := by
    unfold IntOp.remsi; rw [if_neg hc, BitVec.srem_eq, mv, md]
  have hcond : (IntOp.cmpi .ne (sgnW v) (sgnW d)) &&& (IntOp.cmpi .ne (IntOp.remsi .vector v d) 0#32) = 0#1 := by
    by_cases h0 : v.toNat = 0
    · have : v = 0#32 := BitVec.eq_of_toNat_eq h0
      subst this
      have : (0#32) % d = 0#32 := by simp
      rw [hrem, this]
      have : IntOp.cmpi .ne (0#32) 0#32 = 0#1 := by decide
      rw [this, BitVec.and_zero]
    · rw [sgnW_pos hv (by omega), sgnW_pos hd hd0]
      have : IntOp.cmpi .ne (1#32) 1#32 = 0#1 := by decide
      rw [this, BitVec.zero_and]
  unfold floorW
  rw [hcond, hdiv]
  show (v / d).toNat = _
  rw [BitVec.toNat_udiv]

/-! ## Half of the scale matrix -/

/-- The scale row, on every row. -/
def scaleRow (sc : Vec Ideal S1x1x128 .f32) : FVec Ideal S112x128 .f32 :=
  broadcastTo S112x128 (shapeCast S1x128 (shapeCast S1x128 sc shapeCasts_S1x1x128_S1x128) shapeCasts_S1x128_S1x128)
    broadcasts_S1x128_S112x128

/-- Every row of the broadcast scales is the scales row. -/
theorem scaleRow_apply (sc : Vec Ideal S1x1x128 .f32) (x : S112x128.Idx) : scaleRow sc x = sc (ix3 0 0 (x 1)) := by
  unfold scaleRow
  rw [shapeCast_self]
  rw [broadcastTo_apply _ _ _ (ix2 0 (x 1) : S1x128.Idx)
    (fun a => by match a with | ⟨0, _⟩ => rfl | ⟨1, _⟩ => rfl)]
  refine shapeCast_apply _ _ _ (ix3 0 0 (x 1) : S1x1x128.Idx) ?_
  rw [Shape.rowMajor_val_three, Shape.rowMajor_val_two]
  show ((0 : ℕ) * 1 + 0) * 128 + (x 1).val = 0 * 128 + (x 1).val
  omega

/-- The scales of half a tile: flat block numbers `v`, codes and the offset. -/
def halfA (row : FVec Ideal S112x128 .f32) (v : IVec S112x128 32) (codes : Vec Ideal S112x128 .i8) (off : EReal) :
    FVec Ideal S112x128 .f32 :=
  fun x => (FloatOps.sitofp (F := Ideal) .f32 (codes x : BitVec 8) : EReal)
    * row (ix2 (x 0) ⟨(wrapW (floorW (v x) 256#32)).toNat % 128, Nat.mod_lt _ (by decide)⟩) + off

/-- One half of the block scales at an element. -/
theorem halfA_apply (sc : Vec Ideal S1x1x128 .f32) (v : IVec S112x128 32) (codes : Vec Ideal S112x128 .i8) (off : EReal)
    (x : S112x128.Idx) (n : Nat) (hv : (v x).toNat = n) (h : n / 256 < 128) :
    halfA (scaleRow sc) v codes off x
      = (FloatOps.sitofp (F := Ideal) .f32 (codes x : BitVec 8) : EReal) * sc (ix3 0 0 ⟨n / 256, h⟩) + off := by
  unfold halfA
  rw [scaleRow_apply]
  have e : (floorW (v x) 256#32).toNat = n / 256 := by
    rw [floorW_toNat (by omega) (by decide) (by decide), hv]; rfl
  have : ((wrapW (floorW (v x) 256#32)).toNat % 128) = n / 256 := by
    rw [wrapW_of_lt (by omega), e]; omega
  congr 3
  exact idx3_ext rfl rfl this

/-- The first half's payload is `halfA`. -/
theorem pay10_eq (row : FVec Ideal S112x128 .f32) (v : IVec S112x128 32) (codes : Vec Ideal S112x128 .i8) (off : EReal) :
    k1_pay10 (F := Ideal) row v 256#32 codes off = halfA row v codes off := by
  unfold k1_pay10
  dsimp only
  rw [cast_pair, shapeCast_self]
  funext x
  refine congrArg (fun i => (FloatOps.sitofp (F := Ideal) .f32 (codes x : BitVec 8) : EReal) * row i + off) ?_
  exact idx2_ext rfl rfl

/-- The matrix: the two halves side by side, rounded (the identity here) and transposed, is at row `r` and block `b < 112`
    the half `r / 128` holds. -/
theorem pay13_apply (row : FVec Ideal S112x128 .f32) (v117 : FVec Ideal S112x128 .f32) (v : IVec S112x128 32)
    (codes : Vec Ideal S112x128 .i8) (off : EReal) (x : S256x128.Idx) (h : (x 1).val < 112) :
    k1_pay13 (F := Ideal) row v117 v 256#32 (divsi v (broadcast S112x128 256#32)) codes off x
      = if h0 : (x 0).val < 128 then v117 (ix2 ⟨(x 1).val, h⟩ ⟨(x 0).val, h0⟩)
        else halfA row v codes off (ix2 ⟨(x 1).val, h⟩ ⟨(x 0).val - 128, by have : (x 0).val < 256 := (x 0).isLt; omega⟩) := by
  have hx0 : (x 0).val < 256 := (x 0).isLt
  unfold k1_pay13
  dsimp only
  rw [cast_pair, shapeCast_self]
  rw [extf_apply, truncf_apply]
  refine (transpose_apply _ _ _ _ (ix2 (x 1) (x 0) : S128x256.Idx)
    (fun b => by match b with | ⟨0, _⟩ => rfl | ⟨1, _⟩ => rfl)).trans ?_
  refine (concatenate_pair_apply_left (t := S128x256) (s₁ := S112x256) (s₂ := S16x256) 0 _ _ _ _ rfl (ix2 ⟨(x 1).val, h⟩ (x 0) : S112x256.Idx)
    (fun b => by match b with | ⟨0, _⟩ => rfl | ⟨1, _⟩ => rfl)).trans ?_
  by_cases h0 : (x 0).val < 128
  · rw [dif_pos h0]
    exact concatenate_pair_apply_left (t := S112x256) (s₁ := S112x128) (s₂ := S112x128) 1 _ _ _ _ rfl
      (ix2 ⟨(x 1).val, h⟩ ⟨(x 0).val, h0⟩ : S112x128.Idx) (fun b => by match b with | ⟨0, _⟩ => rfl | ⟨1, _⟩ => rfl)
  · rw [dif_neg h0]
    refine (concatenate_pair_apply_right (t := S112x256) (s₁ := S112x128) (s₂ := S112x128) 1 _ _ _ _ rfl rfl
      (ix2 ⟨(x 1).val, h⟩ ⟨(x 0).val - 128, by omega⟩ : S112x128.Idx)
      (fun b hb => by match b with | ⟨0, _⟩ => rfl | ⟨1, _⟩ => exact absurd rfl hb)
      (by show (x 0).val - 128 + 128 = (x 0).val; omega)).trans ?_
    unfold halfA
    refine congrArg (fun i => (FloatOps.sitofp (F := Ideal) .f32 (codes _ : BitVec 8) : EReal) * row i + off) ?_
    exact idx2_ext rfl rfl

end Cert.KernelIdeal.Hand
-- ==== Proof.Tile.lean ====
/- The dequantized weight tile the kernel's second call builds in its scratch, read at an element. -/
module

public import proofs.«01_k».proof.Proof.Scale
public import proofs.«01_k».proof.Proof.Gen.KernelIdeal.Frame
public import Idealize.ShloMosaic.Lib.Pipeline.ReadBack
public import Idealize.ShloMosaic.Lib.Pipeline.ValueKit.Tiles

@[expose] public section

set_option maxRecDepth 16384

noncomputable section

namespace Cert.KernelIdeal.Hand

open Idealize.ShloMosaic Idealize.ShloMosaic.TcCoe Idealize.ShloMosaic.ValueIdx Cert.KernelIdeal.Gen
open Idealize.SL.Sem

/-! ## The table, the group numbers and the scales, as the run names them -/

/-- The low table at one of its first sixteen lanes is the bits of that entry. -/
theorem table_apply (n : Nat) (h : n < 128) (hn : n < 16) :
    kernelRun1_A.sl.v65 (ix2 0 ⟨n, h⟩ : S8x128.Idx) = (nfBits n).setWidth 32 := by
  interval_cases n <;> rfl

/-- The group index of a lane is the lane divided by 32. -/
theorem group_apply (x : S256x128.Idx) : kernelRun1_A.sl.r_3 x = BitVec.ofNat 32 ((x 1).val / 32) := by
  have hx : (x 1).val < 128 := (x 1).isLt
  have e : kernelRun1_A.sl.r_3 x = floorW (BitVec.ofNat 32 (x 1).val) 32#32 := by
    show floorW (iota .tc S256x128 32 [1] iota_S256x128_d1_w32 x) 32#32 = _
    rw [iota_single_apply]
  rw [e]
  apply BitVec.eq_of_toNat_eq
  rw [floorW_toNat (by rw [BitVec.toNat_ofNat]; omega) (by decide) (by decide)]
  simp only [BitVec.toNat_ofNat]
  norm_num
  omega

/-- The scales' matrix: at row `r` and block `b` the code of the two times the scale of the flat block `112 r + b`'s group of
    256, plus the offset. -/
theorem scales_apply (c : Dev nD) (arg1 : Memref sig .tc .smem S1 .f32) (harg1 : arg1.IsWhole)
    (arg5 : Memref sig .tc .vmem S112x256 .i8) (harg5 : arg5.IsWhole) (arg6 : Memref sig .tc .vmem S1x1x128 .f32) (harg6 : arg6.IsWhole)
    (x0 : Vec Ideal S1 .f32) (x4 : Vec Ideal S112x256 .i8) (x5 : Vec Ideal S1x1x128 .f32) (x : S256x128.Idx)
    (h : (x 1).val < 112) (h5 : (112 * (x 0).val + (x 1).val) / 256 < 128) :
    kernelRun1_A.sl.r_2 (F := Ideal) c arg1 harg1 arg5 harg5 arg6 harg6 x0 x4 x5 x
      = (FloatOps.sitofp (F := Ideal) .f32 (x4 (ix2 ⟨(x 1).val, h⟩ (x 0)) : BitVec 8) : EReal)
          * x5 (ix3 0 0 ⟨(112 * (x 0).val + (x 1).val) / 256, h5⟩) + x0 (ix1 0) := by
  have hx0 : (x 0).val < 256 := (x 0).isLt
  have hrow : kernelRun1_A.sl.v73 (F := Ideal) c arg6 harg6 x5 = scaleRow x5 := by
    unfold kernelRun1_A.sl.v73 kernelRun1_A.sl.v72 kernelRun1_A.sl.v71 scaleRow
    rw [View.readAt_eq_ld, harg6.read_unread, View.ld_unit_zero (by funext a; fin_cases a <;> rfl)]
  have hoff : kernelRun1_A.sl.r (F := Ideal) c arg1 harg1 x0 = x0 (ix1 0) := by
    unfold kernelRun1_A.sl.r
    rw [View.readAt_eq_ld, harg1.read_unread, View.ld_unit_zero (by funext a; fin_cases a <;> rfl)]
    exact congrArg x0 (funext fun a => by match a with | ⟨0, _⟩ => rfl)
  unfold kernelRun1_A.sl.r_2
  rw [show k1_pay12 kernelRun1_A.sl.v68 kernelRun1_A.sl.v69
      = divsi (k1_pay11 kernelRun1_A.sl.v68 kernelRun1_A.sl.v69) (broadcast S112x128 256#32) from rfl,
    hrow, hoff, pay13_apply _ _ _ _ _ x h]
  by_cases h0 : (x 0).val < 128
  · rw [dif_pos h0]
    unfold kernelRun1_A.sl.r_1
    rw [hrow, hoff, pay10_eq, View.readAt_eq_ld, harg5.read_unread]
    rw [halfA_apply x5 _ _ _ _ (112 * (x 0).val + (x 1).val) ?_ h5]
    · congr 3
      refine congrArg x4 (idx2_ext ?_ ?_)
      · rw [Rect.idx_unit_val]; show 0 + (x 1).val = (x 1).val; omega
      · rw [Rect.idx_unit_val]; show 0 + (x 0).val = (x 0).val; omega
    · show (addi kernelRun1_A.sl.v77 kernelRun1_A.sl.v69 _).toNat = _
      show (112#32 * (iota .tc S112x128 32 [1] iota_S112x128_d1_w32 _ + 0#32) + iota .tc S112x128 32 [0] iota_S112x128_d0_w32 _).toNat = _
      rw [iota_single_apply, iota_single_apply]
      show (112#32 * (BitVec.ofNat 32 (x 0).val + 0#32) + BitVec.ofNat 32 (x 1).val).toNat = _
      simp only [BitVec.toNat_add, BitVec.toNat_mul, BitVec.toNat_ofNat]
      norm_num
      omega
  · rw [dif_neg h0]
    rw [View.readAt_eq_ld, harg5.read_unread]
    rw [halfA_apply x5 _ _ _ _ (112 * (x 0).val + (x 1).val) ?_ h5]
    · congr 3
      refine congrArg x4 (idx2_ext ?_ ?_)
      · rw [Rect.idx_unit_val]; show 0 + (x 1).val = (x 1).val; omega
      · rw [Rect.idx_unit_val]; show 128 + ((x 0).val - 128) = (x 0).val; omega
    · show (112#32 * (iota .tc S112x128 32 [1] iota_S112x128_d1_w32 _ + 128#32) + iota .tc S112x128 32 [0] iota_S112x128_d0_w32 _).toNat = _
      rw [iota_single_apply, iota_single_apply]
      show (112#32 * (BitVec.ofNat 32 ((x 0).val - 128) + 128#32) + BitVec.ofNat 32 (x 1).val).toNat = _
      simp only [BitVec.toNat_add, BitVec.toNat_mul, BitVec.toNat_ofNat]
      norm_num
      omega

/-- The dequantized tile from a scale matrix: row `r` and position `256 c + 128 f + l` hold nibble `f` of byte
    `128 c + l`, scaled by the entry of block `4 c + l / 32`. -/
def tileOf (A : FVec Ideal S256x128 .f32) (x3 : Vec Ideal S256x3584 .i8) : Vec Ideal S256x7168 .bf16 := fun y =>
  have h1 : (y 1).val < 7168 := (y 1).isLt
  nf (nib ((y 1).val / 128 % 2) (x3 (ix2 (y 0) ⟨128 * ((y 1).val / 256) + (y 1).val % 128, by omega⟩) : BitVec 8))
    * A (ix2 (y 0) ⟨4 * ((y 1).val / 256) + (y 1).val % 128 / 32, by omega⟩)

/-- One strip, stored at column `off`, is the tile's there. -/
theorem strip_piece (A : FVec Ideal S256x128 .f32) {arg4 : Memref sig .tc .vmem S256x3584 .i8} (harg4 : arg4.IsWhole)
    (x3 : Vec Ideal S256x3584 .i8) (off : Nat)
    (inb : ∀ a, (![0, off] : Fin 2 → Nat) a + S256x128.size a ≤ S256x7168.size a)
    (inb4 : ∀ a, (![0, 128 * (off / 256)] : Fin 2 → Nat) a + S256x128.size a ≤ S256x3584.size a)
    (h : off % 128 = 0) (x : S256x128.Idx) :
    strip kernelRun1_A.sl.v65 (shli kernelRun1_A.sl.v65 kernelRun1_A.sl.v66) A kernelRun1_A.sl.r_3
        (View.readAt (Elt Ideal) arg4.view (Rect.unit (s := S256x3584) ![0, 128 * (off / 256)] S256x128.size inb4).toLoadRect (harg4.unread x3))
        (off % 256 / 128) (BitVec.ofNat 32 (4 * (off / 256))) x
      = tileOf A x3 ((Rect.unit (s := S256x7168) ![0, off] S256x128.size inb).emb x) := by
  have hx1 : (x 1).val < 128 := (x 1).isLt
  have hoff : off + 128 ≤ 7168 := inb 1
  rw [strip_apply kernelRun1_A.sl.v65 (shli kernelRun1_A.sl.v65 kernelRun1_A.sl.v66) A kernelRun1_A.sl.r_3 _ _ (by omega) _
      (by omega) table_apply (fun _ => rfl) group_apply x (by omega),
    View.readAt_eq_ld, harg4.read_unread]
  have e1 : (((Rect.unit (s := S256x7168) ![0, off] S256x128.size inb).emb x) 1).val = off + (x 1).val := by
    rw [show ((Rect.unit (s := S256x7168) ![0, off] S256x128.size inb).emb x) 1 = ((Rect.unit (s := S256x7168) ![0, off] S256x128.size inb).idx x) 1 from rfl, Rect.idx_unit_val]; rfl
  have e0 : (((Rect.unit (s := S256x7168) ![0, off] S256x128.size inb).emb x) 0).val = (x 0).val := by
    rw [show ((Rect.unit (s := S256x7168) ![0, off] S256x128.size inb).emb x) 0 = ((Rect.unit (s := S256x7168) ![0, off] S256x128.size inb).idx x) 0 from rfl, Rect.idx_unit_val]; show 0 + (x 0).val = _; omega
  unfold tileOf
  congr 1
  · rw [show (((Rect.unit (s := S256x7168) ![0, off] S256x128.size inb).emb x) 1).val / 128 % 2 = off % 256 / 128 by omega]
    congr 2
    refine congrArg x3 (idx2_ext ?_ ?_)
    · rw [Rect.idx_unit_val]
      show 0 + (x 0).val = (((Rect.unit (s := S256x7168) ![0, off] S256x128.size inb).emb x) 0).val
      rw [e0]; omega
    · rw [Rect.idx_unit_val]
      show 128 * (off / 256) + (x 1).val = 128 * ((((Rect.unit (s := S256x7168) ![0, off] S256x128.size inb).emb x) 1).val / 256) + (((Rect.unit (s := S256x7168) ![0, off] S256x128.size inb).emb x) 1).val % 128
      omega
  · refine congrArg A (idx2_ext e0.symm ?_)
    show 4 * (off / 256) + (x 1).val / 32 = 4 * ((((Rect.unit (s := S256x7168) ![0, off] S256x128.size inb).emb x) 1).val / 256) + (((Rect.unit (s := S256x7168) ![0, off] S256x128.size inb).emb x) 1).val % 128 / 32
    omega

/-- The scratch, read back whole, is the dequantized tile. -/
theorem scratch_eq (c : Dev nD) (arg1 : Memref sig .tc .smem S1 .f32) (harg1 : arg1.IsWhole)
    (arg4 : Memref sig .tc .vmem S256x3584 .i8) (harg4 : arg4.IsWhole) (arg5 : Memref sig .tc .vmem S112x256 .i8) (harg5 : arg5.IsWhole)
    (arg6 : Memref sig .tc .vmem S1x1x128 .f32) (harg6 : arg6.IsWhole) (arg9 : Memref sig .tc .vmem S256x7168 .bf16)
    (x0 : Vec Ideal S1 .f32) (x3 : Vec Ideal S256x3584 .i8) (x4 : Vec Ideal S112x256 .i8) (x5 : Vec Ideal S1x1x128 .f32) :
    kernelRun1_A.sl.v2435 (F := Ideal) c arg1 harg1 arg4 harg4 arg5 harg5 arg6 harg6 arg9 x0 x3 x4 x5
      = tileOf (kernelRun1_A.sl.r_2 (F := Ideal) c arg1 harg1 arg5 harg5 arg6 harg6 x0 x4 x5) x3 := by
  have cov : ∀ y, ∃ p ∈ kernelRun1_A.sl.HS0_56 (F := Ideal) c arg1 harg1 arg4 harg4 arg5 harg5 arg6 harg6 x0 x3 x4 x5, y ∈ p.1.set :=
    View.cover_of_tiledL _ S256x128.size (by sl_kernel_rfl)
  unfold kernelRun1_A.sl.v2435
  rw [View.readCov_eq_canon_ld _ _ _ cov, View.ld_unit_zero (by funext a; fin_cases a <;> rfl)]
  funext y
  have h := View.canon_append_of_piecesOf (tileOf (kernelRun1_A.sl.r_2 (F := Ideal) c arg1 harg1 arg5 harg5 arg6 harg6 x0 x4 x5) x3) []
    (kernelRun1_A.sl.HS0_56 (F := Ideal) c arg1 harg1 arg4 harg4 arg5 harg5 arg6 harg6 x0 x3 x4 x5) ?_ y (cov y)
  · rw [List.append_nil] at h; exact h
  · unfold kernelRun1_A.sl.HS0_56
    repeat' apply And.intro
    all_goals first
      | exact trivial
      | exact fun x => Eq.trans (by sl_kernel_rfl) (strip_piece _ harg4 x3 _ (by decide) (by decide) (by decide) x)

end Cert.KernelIdeal.Hand
-- ==== Proof.Main.lean ====
/- What the kernel's second call leaves: one output block from the point's input blocks, and the whole array from its blocks. -/
module

public import proofs.«01_k».proof.Proof.Tile
public import Idealize.ShloMosaic.Lib.Pointwise.Contract
public import Idealize.ShloMosaic.Lib.Pipeline.ValueKit

@[expose] public section

set_option maxRecDepth 16384

noncomputable section

namespace Cert.KernelIdeal.Hand

open Idealize.ShloMosaic hiding ix1 ix2 ix3
open Idealize.ShloMosaic.TcCoe Idealize.ShloMosaic.ValueIdx Cert.KernelIdeal.Gen
open Idealize.SL.Sem

/-- The f32 word of zeros is zero. -/
theorem zero_f32 : (Ideal.ofBits .f32 0x00000000#32 : EReal) = 0 := by
  simp [Ideal.ofBits, Ideal.ieee, -EReal.coe_mul]

/-- The f32 word of the LoRA factor is two. -/
theorem two_f32 : (Ideal.ofBits .f32 0x40000000#32 : EReal) = 2 := by
  simp [Ideal.ofBits, Ideal.ieee, -EReal.coe_mul]; norm_num; rfl

/-- The output block's value: the product with the dequantized tile plus twice the low-rank product. -/
theorem pay3_apply (xd : Vec Ideal S1792x7168 .bf16) (wd : Vec Ideal S256x7168 .bf16) (t : Vec Ideal S1792x16 .bf16)
    (lb : Vec Ideal S16x256 .bf16) (x : S1792x256.Idx) :
    k1_pay3 (F := Ideal) xd wd t lb x
      = (∑ k : Fin 7168, (xd (ix2 (x 0) k) : EReal) * wd (ix2 (x 1) k))
        + 2 * ∑ r : Fin 16, (t (ix2 (x 0) r) : EReal) * lb (ix2 r (x 1)) := by
  have e1 := Ideal.matmul_apply₁_of dot_S1792x7168_S256x7168_S1792x256_1_1_0_0_n_n (a := 1) rfl (K := 7168) rfl xd wd
    (fun _ => 0) x (fun k => ix2 (x 0) k) (fun k => ix2 (x 1) k)
    (fun k => idx2_ext rfl rfl) (fun k => idx2_ext rfl rfl)
  have e2 := Ideal.matmul_apply₁_of dot_S1792x16_S16x256_S1792x256_1_0_0_1_n_n (a := 1) rfl (K := 16) rfl t lb
    (fun _ => 0) x (fun k => ix2 (x 0) k) (fun k => ix2 k (x 1))
    (fun k => idx2_ext rfl rfl) (fun k => idx2_ext rfl rfl)
  rw [zero_add] at e1 e2
  rw [← e1, ← e2]
  unfold k1_pay3
  rw [shapeCast_self, shapeCast_self, shapeCast_self]
  show Ideal.matmul _ xd wd (fun _ => Ideal.ofBits .f32 0x00000000#32) x
    + Ideal.ofBits .f32 0x40000000#32 * Ideal.matmul _ t lb (fun _ => Ideal.ofBits .f32 0x00000000#32) x = _
  rw [zero_f32, two_f32]

/-- One dequantized weight, from the arrays the call reads: row `n`, column `k` of the kernel's column order. -/
def weight (w : Vec Ideal S20480x3584 .i8) (codes : Vec Ideal S112x20480 .i8) (scales : Vec Ideal S80x1x128 .f32)
    (off : Vec Ideal S1 .f32) (n : Fin 20480) (k : Fin 7168) : EReal :=
  nf (nib (k.val / 128 % 2) (w (ix2 n ⟨128 * (k.val / 256) + k.val % 128, by omega⟩) : BitVec 8))
    * ((FloatOps.sitofp (F := Ideal) .f32 (codes (ix2 ⟨4 * (k.val / 256) + k.val % 128 / 32, by omega⟩ n) : BitVec 8) : EReal)
        * scales (ix3 ⟨n.val / 256, by omega⟩ 0 ⟨(112 * (n.val % 256) + (4 * (k.val / 256) + k.val % 128 / 32)) / 256, by omega⟩)
      + off (ix1 0))

/-- The output array: the product with the dequantized weights plus twice the low-rank product. -/
def mainOut (off : Vec Ideal S1 .f32) (xd : Vec Ideal S1792x7168 .bf16) (t : Vec Ideal S1792x16 .bf16)
    (w : Vec Ideal S20480x3584 .i8) (codes : Vec Ideal S112x20480 .i8) (scales : Vec Ideal S80x1x128 .f32)
    (lb : Vec Ideal S16x20480 .bf16) : Vec Ideal S1792x20480 .bf16 := fun i =>
  (∑ k : Fin 7168, (xd (ix2 (i 0) k) : EReal) * weight w codes scales off (i 1) k)
    + 2 * ∑ r : Fin 16, (t (ix2 (i 0) r) : EReal) * lb (ix2 r (i 1))

variable (V : (c : Dev nD) → (b : Ref sig .tc) → Buf (Elt Ideal) ((c : Thread nD τ).loc b))

/-- The block one grid point leaves, from the point's input blocks. -/
theorem outsAt1_eq (c : Dev nD) (t : Fin cfg1.N) :
    outsAt1 V c t = k1_pay3 (F := Ideal) (iblk1 V c 1 t)
      (tileOf (kernelRun1_A.sl.r_2 (F := Ideal) c (ms1_0 t) (hs1_0 t) (ms1_4 t) (hs1_4 t) (ms1_5 t) (hs1_5 t)
        (iblk1 V c 0 t) (iblk1 V c 4 t) (iblk1 V c 5 t)) (iblk1 V c 3 t)) (iblk1 V c 2 t) (iblk1 V c 6 t) := by
  unfold outsAt1 out1_A_7
  rw [View.read_writes_eq_canon _ _ _ (cover1_A_7 c _ _ _ _ _ _ _ _ _ _ _ _ _ _ _ _ _ _ _ _ _ _ _ _ _ _)]
  unfold kernelRun1_A
  dsimp only
  rw [View.canon_unit_zero (by funext a; fin_cases a <;> rfl), scratch_eq]
  rw [View.readAt_eq_ld, View.readAt_eq_ld, View.readAt_eq_ld, (hs1_1 t).read_unread, (hs1_2 t).read_unread, (hs1_6 t).read_unread]
  rw [View.ld_unit_zero (by funext a; fin_cases a <;> rfl), View.ld_unit_zero (by funext a; fin_cases a <;> rfl),
    View.ld_unit_zero (by funext a; fin_cases a <;> rfl)]

/-- The main call has 80 steps. -/
theorem point_lt (t : Fin cfg1.N) : t.val < 80 := t.isLt

/-- The first axis' block number of the windows that move along rows, and the last axis' of those that move along columns. -/
theorem index_rows : ∀ t : Fin grid1.N, win1_3.index t = ![t.val, 0] ∧ win1_5.index t = ![t.val, 0, 0] := by decide +kernel

/-- The windows that go by columns are at block column `t` in step `t`. -/
theorem index_cols : ∀ t : Fin grid1.N, win1_4.index t = ![0, t.val] ∧ win1_6.index t = ![0, t.val] ∧ win1_7.index t = ![0, t.val] := by
  decide +kernel

/-- The windows on whole arrays stay at their first block. -/
theorem index_whole : ∀ t : Fin grid1.N, win1_0.index t = ![0] ∧ win1_1.index t = ![0, 0] ∧ win1_2.index t = ![0, 0] := by decide +kernel

/-- The offset block is the whole offset array. -/
theorem block0 (c : Dev nD) (t : Fin cfg1.N) (x : S1.Idx) : iblk1 V c 0 t x = V c main_v4 x := by
  blk_simp [iblk1]
  refine congrArg (V c main_v4) ?_
  blk_ext [(index_whole t).1]

/-- The activations block is the whole array. -/
theorem block1 (c : Dev nD) (t : Fin cfg1.N) (x : S1792x7168.Idx) : iblk1 V c 1 t x = V c main_v1_0 x := by
  blk_simp [iblk1]
  refine congrArg (V c main_v1_0) ?_
  blk_ext [(index_whole t).2.1]

/-- The low-rank block is the whole array. -/
theorem block2 (c : Dev nD) (t : Fin cfg1.N) (x : S1792x16.Idx) : iblk1 V c 2 t x = V c main_v1_1 x := by
  blk_simp [iblk1]
  refine congrArg (V c main_v1_1) ?_
  blk_ext [(index_whole t).2.2]

/-- Step `t` reads rows `256 t` and on of the packed weights. -/
theorem block3 (c : Dev nD) (t : Fin cfg1.N) (r : Fin 256) (k : Fin 3584) :
    iblk1 V c 3 t (ix2 r k : S256x3584.Idx) = V c main_arg1 (ix2 ⟨256 * t.val + r.val, by have := point_lt t; omega⟩ k : S20480x3584.Idx) := by
  blk_simp [iblk1]
  refine congrArg (V c main_arg1) ?_
  blk_ext [(index_rows t).1]
  show t.val * 256 + r.val = 256 * t.val + r.val; omega

/-- Step `t` reads columns `256 t` and on of the transposed codes. -/
theorem block4 (c : Dev nD) (t : Fin cfg1.N) (b : Fin 112) (r : Fin 256) :
    iblk1 V c 4 t (ix2 b r : S112x256.Idx) = V c main_v5 (ix2 b ⟨256 * t.val + r.val, by have := point_lt t; omega⟩ : S112x20480.Idx) := by
  blk_simp [iblk1]
  refine congrArg (V c main_v5) ?_
  blk_ext [(index_cols t).1]
  show t.val * 256 + r.val = 256 * t.val + r.val; omega

/-- Step `t` reads row `t` of the padded group scales. -/
theorem block5 (c : Dev nD) (t : Fin cfg1.N) (g : Fin 128) :
    iblk1 V c 5 t (ix3 0 0 g : S1x1x128.Idx) = V c main_v3 (ix3 ⟨t.val, point_lt t⟩ 0 g : S80x1x128.Idx) := by
  blk_simp [iblk1]
  refine congrArg (V c main_v3) ?_
  blk_ext [(index_rows t).2]

/-- Step `t` reads columns `256 t` and on of the transposed low-rank factor. -/
theorem block6 (c : Dev nD) (t : Fin cfg1.N) (k : Fin 16) (r : Fin 256) :
    iblk1 V c 6 t (ix2 k r : S16x256.Idx) = V c main_v6 (ix2 k ⟨256 * t.val + r.val, by have := point_lt t; omega⟩ : S16x20480.Idx) := by
  blk_simp [iblk1]
  refine congrArg (V c main_v6) ?_
  blk_ext [(index_cols t).2.1]
  show t.val * 256 + r.val = 256 * t.val + r.val; omega

/-- The tile of point `t` is the rows `256 t ‥` of the dequantized weights. -/
theorem tile_weight (c : Dev nD) (t : Fin cfg1.N) (r : Fin 256) (k : Fin 7168) :
    tileOf (kernelRun1_A.sl.r_2 (F := Ideal) c (ms1_0 t) (hs1_0 t) (ms1_4 t) (hs1_4 t) (ms1_5 t) (hs1_5 t)
        (iblk1 V c 0 t) (iblk1 V c 4 t) (iblk1 V c 5 t)) (iblk1 V c 3 t) (ix2 r k)
      = weight (V c main_arg1) (V c main_v5) (V c main_v3) (V c main_v4) ⟨256 * t.val + r.val, by have := point_lt t; omega⟩ k := by
  have ht := point_lt t
  have hb : 4 * (k.val / 256) + k.val % 128 / 32 < 112 := by omega
  refine (congrArg₂ (· * ·) (congrArg (fun v => nf (nib (k.val / 128 % 2) v)) (block3 V c t r _))
    (scales_apply c (ms1_0 t) (hs1_0 t) (ms1_4 t) (hs1_4 t) (ms1_5 t) (hs1_5 t) (iblk1 V c 0 t) (iblk1 V c 4 t) (iblk1 V c 5 t)
      (ix2 r ⟨4 * (k.val / 256) + k.val % 128 / 32, by omega⟩) hb
      (by show (112 * r.val + (4 * (k.val / 256) + k.val % 128 / 32)) / 256 < 128; omega))).trans ?_
  show _ * (FloatOps.sitofp (F := Ideal) .f32 (iblk1 V c 4 t (ix2 ⟨4 * (k.val / 256) + k.val % 128 / 32, hb⟩ r : S112x256.Idx))
    * iblk1 V c 5 t (ix3 0 0 ⟨(112 * r.val + (4 * (k.val / 256) + k.val % 128 / 32)) / 256, by omega⟩ : S1x1x128.Idx)
      + iblk1 V c 0 t (ix1 0 : S1.Idx)) = _
  rw [block4, block5, block0]
  unfold weight
  have e1 : (⟨(256 * t.val + r.val) / 256, by omega⟩ : Fin 80) = ⟨t.val, ht⟩ := Fin.ext (by show (256 * t.val + r.val) / 256 = t.val; omega)
  have e2 : (256 * t.val + r.val) % 256 = r.val := by omega
  simp only [e1, e2]

/-- The output array after the second call. -/
theorem main_array (c : Dev nD) :
    (dat1 V c).arrAt 7 cfg1.N = mainOut (V c main_v4) (V c main_v1_0) (V c main_v1_1) (V c main_arg1) (V c main_v5)
      (V c main_v3) (V c main_v6) := by
  refine (dat1 V c).arrAt_eq_of_covers 7 _ (by decide +kernel) fun t hf y => ?_
  blk_simp
  rw [after1_7, outsAt1_eq, pay3_apply]
  have hy : ((cfg1.win 7).blk t).view.emb y
      = (ix2 (y 0) ⟨256 * t.val + (y 1).val, by have := point_lt t; have : (y 1).val < 256 := (y 1).isLt; omega⟩ : S1792x20480.Idx) := by
    blk_ext [(index_cols t).2.2]
  rw [hy]
  unfold mainOut
  refine congrArg₂ (fun a b : EReal => a + 2 * b) (Finset.sum_congr rfl fun k _ => ?_) (Finset.sum_congr rfl fun k _ => ?_)
  · exact congrArg₂ (· * ·) (block1 V c t _) (tile_weight V c t _ k)
  · exact congrArg₂ (· * ·) (block2 V c t _) (block6 V c t k _)

end Cert.KernelIdeal.Hand
-- ==== Proof.Prep.lean ====
/- What the kernel's first call leaves: the activations' columns deinterleaved within each group of 256, and the low-rank
   activations. -/
module

public import proofs.«01_k».proof.Proof.Main

@[expose] public section

set_option maxRecDepth 16384

noncomputable section

namespace Cert.KernelIdeal.Hand

open Idealize.ShloMosaic hiding ix1 ix2 ix3
open Idealize.ShloMosaic.TcCoe Idealize.ShloMosaic.ValueIdx Cert.KernelIdeal.Gen
open Idealize.SL.Sem

/-! ## The permutation matrix -/

/-- The column of a group of 256 that column `c` of the deinterleaved group holds: the even ones first. -/
def srcCol (c : Nat) : Nat := if c < 128 then 2 * c else 2 * (c - 128) + 1

/-- A source column lies in its group. -/
theorem srcCol_lt {c : Nat} (h : c < 256) : srcCol c < 256 := by unfold srcCol; split <;> omega

/-- The source column as the kernel computes it, in words. -/
def srcWord (c : BitVec 32) : BitVec 32 :=
  Scalar.select (IntOp.cmpi .slt c 128#32) (2#32 * c) (2#32 * (c - 128#32) + 1#32)

/-- The word the kernel computes for a source column is that column. -/
theorem srcWord_eq : ∀ c : Fin 256, srcWord (BitVec.ofNat 32 c.val) = BitVec.ofNat 32 (srcCol c.val) := by decide +kernel

/-- The permutation matrix is one at the source column and zero elsewhere. -/
theorem perm_apply (k c : Fin 256) : k0_pay5 (F := Ideal) (ix2 k c) = if k.val = srcCol c.val then (1 : EReal) else 0 := by
  have e : k0_pay5 (F := Ideal) (ix2 k c)
      = FloatOps.sitofp (F := Ideal) .f32 ((IntOp.cmpi .eq (BitVec.ofNat 32 k.val) (srcWord (BitVec.ofNat 32 c.val))).setWidth 32) := by
    show FloatOps.sitofp (F := Ideal) .f32 ((IntOp.cmpi .eq (iota .tc S256x256 32 [0] iota_S256x256_d0_w32 (ix2 k c))
      (srcWord (iota .tc S256x256 32 [1] iota_S256x256_d1_w32 (ix2 k c)))).setWidth 32) = _
    rw [iota_single_apply, iota_single_apply]
  rw [e, srcWord_eq]
  have hs := srcCol_lt c.isLt
  by_cases h : k.val = srcCol c.val
  · rw [if_pos h, h]
    simp [IntOp.cmpi, FloatOps.sitofp]
  · rw [if_neg h]
    have hne : BitVec.ofNat 32 k.val ≠ BitVec.ofNat 32 (srcCol c.val) := by
      intro hc
      have := congrArg BitVec.toNat hc
      rw [BitVec.toNat_ofNat, BitVec.toNat_ofNat] at this
      omega
    simp [IntOp.cmpi, FloatOps.sitofp, beq_eq_false_iff_ne.mpr hne]

/-- A group of 256 columns times the permutation matrix. -/
theorem group_perm (v : Vec Ideal S128x256 .bf16) (x : S128x256.Idx) :
    k0_pay6 (F := Ideal) v x = v (ix2 (x 0) ⟨srcCol (x 1).val, srcCol_lt (x 1).isLt⟩) := by
  have e1 := Ideal.matmul_apply₁_of dot_S128x256_S256x256_S128x256_1_0_0_1_n_n (a := 1) rfl (K := 256) rfl v (k0_pay5 (F := Ideal))
    (fun _ => 0) x (fun k => ix2 (x 0) k) (fun k => ix2 k (x 1))
    (fun k => idx2_ext rfl rfl) (fun k => idx2_ext rfl rfl)
  unfold k0_pay6
  rw [shapeCast_self]
  show Ideal.matmul _ v (k0_pay5 (F := Ideal)) (fun _ => Ideal.ofBits .f32 0x00000000#32) x = _
  rw [zero_f32, e1, zero_add]
  rw [Finset.sum_eq_single (⟨srcCol (x 1).val, srcCol_lt (x 1).isLt⟩ : Fin 256)]
  · rw [perm_apply _ (x 1), if_pos rfl]; exact mul_one (M := EReal) _
  · intro k _ hk
    rw [perm_apply _ (x 1), if_neg (fun h => hk (Fin.ext h))]; exact mul_zero (M₀ := EReal) _
  · intro h; exact absurd (Finset.mem_univ _) h

/-! ## One block -/

/-- The block with the columns of every group of 256 deinterleaved. -/
def prepOf (x0 : Vec Ideal S128x7168 .bf16) : Vec Ideal S128x7168 .bf16 := fun y =>
  have h1 : (y 1).val < 7168 := (y 1).isLt
  x0 (ix2 (y 0) ⟨256 * ((y 1).val / 256) + srcCol ((y 1).val % 256), by
    have := srcCol_lt (c := (y 1).val % 256) (by omega); omega⟩)

/-- One group of 256 columns of the permuted activations. -/
theorem prep_piece (x0 : Vec Ideal S128x7168 .bf16) (off : Nat)
    (inb : ∀ a, (![0, off] : Fin 2 → Nat) a + S128x256.size a ≤ S128x7168.size a) (h : off % 256 = 0) (x : S128x256.Idx) :
    k0_pay6 (F := Ideal) (View.ld x0 (Rect.unit (s := S128x7168) ![0, off] S128x256.size inb)) x
      = prepOf x0 ((Rect.unit (s := S128x7168) ![0, off] S128x256.size inb).emb x) := by
  have hx1 : (x 1).val < 256 := (x 1).isLt
  have hoff : off + 256 ≤ 7168 := inb 1
  have e1 : (((Rect.unit (s := S128x7168) ![0, off] S128x256.size inb).emb x) 1).val = off + (x 1).val := Rect.idx_unit_val ..
  have e0 : (((Rect.unit (s := S128x7168) ![0, off] S128x256.size inb).emb x) 0).val = 0 + (x 0).val := Rect.idx_unit_val ..
  rw [group_perm]
  refine congrArg x0 (idx2_ext ?_ ?_)
  · refine (Rect.idx_unit_val ..).trans e0.symm
  · refine (Rect.idx_unit_val ..).trans ?_
    show off + srcCol (x 1).val = 256 * ((((Rect.unit (s := S128x7168) ![0, off] S128x256.size inb).emb x) 1).val / 256)
      + srcCol ((((Rect.unit (s := S128x7168) ![0, off] S128x256.size inb).emb x) 1).val % 256)
    rw [e1, show (off + (x 1).val) % 256 = (x 1).val by omega]; omega

/-- Pieces that are all blocks of one array read back as that array wherever they cover. -/
theorem canon_of_pieces {s : Shape} {e : EltTy} (G : s.Idx → Elt Ideal e) (L : List (View.Piece (Elt Ideal) s e))
    (h : View.PiecesOf G L) (y : s.Idx) (cov : ∃ p ∈ L, y ∈ p.1.set) : View.canon L y = G y := by
  have h := View.canon_append_of_piecesOf G [] L h y cov
  rwa [List.append_nil] at h

/-- The first block a step of the prep call writes: its activations, permuted. -/
theorem out0_2_eq (x0 : Vec Ideal S128x7168 .bf16) (x1 : Vec Ideal S16x7168 .bf16) : out0_2 (F := Ideal) x0 x1 = prepOf x0 := by
  funext y
  unfold out0_2
  refine canon_of_pieces (prepOf x0) _ ?_ y (cover0_2 (F := Ideal) _ _ _ _ _ _ _ _ _ _ _ _ _ _ _ _ _ _ _ _ _ _ _ _ _ _ _ _ y)
  repeat' apply And.intro
  all_goals first
    | exact trivial
    | exact fun x => Eq.trans (by sl_kernel_rfl) (prep_piece x0 _ (by decide) (by decide) x)

/-- The second block a step of the prep call writes: its activations times the low-rank factor. -/
theorem out0_3_apply (x0 : Vec Ideal S128x7168 .bf16) (x1 : Vec Ideal S16x7168 .bf16) (x : S128x16.Idx) :
    out0_3 (F := Ideal) x0 x1 x = ∑ k : Fin 7168, (x0 (ix2 (x 0) k) : EReal) * x1 (ix2 (x 1) k) := by
  have e1 := Ideal.matmul_apply₁_of dot_S128x7168_S16x7168_S128x16_1_1_0_0_n_n (a := 1) rfl (K := 7168) rfl x0 x1
    (fun _ => 0) x (fun k => ix2 (x 0) k) (fun k => ix2 (x 1) k)
    (fun k => idx2_ext rfl rfl) (fun k => idx2_ext rfl rfl)
  unfold out0_3
  rw [View.canon_unit_zero (by funext a; fin_cases a <;> rfl), View.ld_unit_zero (by funext a; fin_cases a <;> rfl),
    View.ld_unit_zero (by funext a; fin_cases a <;> rfl)]
  unfold k0_pay4
  rw [shapeCast_self]
  show Ideal.matmul _ x0 x1 (fun _ => Ideal.ofBits .f32 0x00000000#32) x = _
  rw [zero_f32, e1, zero_add]

/-! ## The arrays -/

variable (V : (c : Dev nD) → (b : Ref sig .tc) → Buf (Elt Ideal) ((c : Thread nD τ).loc b))

/-- The prep call has 14 steps. -/
theorem point0_lt (t : Fin cfg0.N) : t.val < 14 := t.isLt

/-- The windows that go by rows are at block row `t` in step `t`. -/
theorem index0_rows : ∀ t : Fin grid0.N, win0_0.index t = ![t.val, 0] ∧ win0_2.index t = ![t.val, 0] ∧ win0_3.index t = ![t.val, 0] := by
  decide +kernel

/-- The low-rank factor window stays at its first block. -/
theorem index0_whole : ∀ t : Fin grid0.N, win0_1.index t = ![0, 0] := by decide +kernel

/-- Step `t` reads rows `128 t` and on of the activations. -/
theorem block0_0 (c : Dev nD) (t : Fin cfg0.N) (r : Fin 128) (k : Fin 7168) :
    iblk0 V c 0 t (ix2 r k : S128x7168.Idx) = V c main_v0 (ix2 ⟨128 * t.val + r.val, by have := point0_lt t; omega⟩ k : S1792x7168.Idx) := by
  blk_simp [iblk0]
  refine congrArg (V c main_v0) ?_
  blk_ext [(index0_rows t).1]
  show t.val * 128 + r.val = 128 * t.val + r.val; omega

/-- The low-rank factor block is the whole array. -/
theorem block0_1 (c : Dev nD) (t : Fin cfg0.N) (x : S16x7168.Idx) : iblk0 V c 1 t x = V c main_arg5 x := by
  blk_simp [iblk0]
  refine congrArg (V c main_arg5) ?_
  blk_ext [index0_whole t]

/-- The deinterleaved activations. -/
def prepArr (x : Vec Ideal S1792x7168 .bf16) : Vec Ideal S1792x7168 .bf16 := fun y =>
  have h1 : (y 1).val < 7168 := (y 1).isLt
  x (ix2 (y 0) ⟨256 * ((y 1).val / 256) + srcCol ((y 1).val % 256), by
    have := srcCol_lt (c := (y 1).val % 256) (by omega); omega⟩)

/-- The low-rank activations. -/
def lowArr (x : Vec Ideal S1792x7168 .bf16) (la : Vec Ideal S16x7168 .bf16) : Vec Ideal S1792x16 .bf16 := fun y =>
  ∑ k : Fin 7168, (x (ix2 (y 0) k) : EReal) * la (ix2 (y 1) k)

/-- After the prep call its first result is the permuted activations. -/
theorem prep_array (c : Dev nD) : (dat0 V c).arrAt 2 cfg0.N = prepArr (V c main_v0) := by
  refine (dat0 V c).arrAt_eq_of_covers 2 _ (by decide +kernel) fun t hf y => ?_
  blk_simp
  rw [after0_2, out0_2_eq]
  have hy : ((cfg0.win 2).blk t).view.emb y
      = (ix2 ⟨128 * t.val + (y 0).val, by have := point0_lt t; have : (y 0).val < 128 := (y 0).isLt; omega⟩ (y 1) : S1792x7168.Idx) := by
    blk_ext [(index0_rows t).2.1]
  rw [hy]
  exact block0_0 V c t (y 0) _

/-- After the prep call its second result is the low-rank product. -/
theorem low_array (c : Dev nD) : (dat0 V c).arrAt 3 cfg0.N = lowArr (V c main_v0) (V c main_arg5) := by
  refine (dat0 V c).arrAt_eq_of_covers 3 _ (by decide +kernel) fun t hf y => ?_
  blk_simp
  rw [after0_3, out0_3_apply]
  have hy : ((cfg0.win 3).blk t).view.emb y
      = (ix2 ⟨128 * t.val + (y 0).val, by have := point0_lt t; have : (y 0).val < 128 := (y 0).isLt; omega⟩ (y 1) : S1792x16.Idx) := by
    blk_ext [(index0_rows t).2.2]
  rw [hy]
  unfold lowArr
  refine congrArg (fun f : Fin 7168 → EReal => ∑ k, f k) (funext fun k => ?_)
  exact congrArg₂ (· * ·) (block0_0 V c t (y 0) k) (block0_1 V c t _)

end Cert.KernelIdeal.Hand
-- ==== Proof.HostOps.lean ====
/- The buffers each call is entered with, and the result, as the host lines around the calls leave them. -/
module

public import proofs.«01_k».proof.Proof.Prep
public import Idealize.ShloMosaic.Lib.KernelVsHost

@[expose] public section

set_option maxRecDepth 16384

noncomputable section

namespace Cert.KernelIdeal.Hand

open Idealize.ShloMosaic hiding ix0 ix1 ix2 ix3
open Idealize.ShloMosaic.TcCoe Idealize.ShloMosaic.ValueIdx Cert.KernelIdeal.Gen
open Idealize.SL.Sem

variable (m : (ℓ : Loc nD τ sig) → Buf (Elt Ideal) ℓ) (ρ : Dev nD → PrngReg)

/-- The activations as the first call reads them: the two leading axes merged. -/
theorem entry_v0 (c : Dev nD) :
    (V1 m ρ c main_v0 : Vec Ideal S1792x7168 .bf16)
      = shapeCast S1792x7168 (m ((c : Thread nD τ).loc main_arg0) : Vec Ideal S2x896x7168 .bf16) shapeCasts_S2x896x7168_S1792x7168 := by
  show StableHlo.after hostOps0 (W0 m ρ c) (Proc.devRef .tc main_v0) = _
  after_results
  rfl

/-- What the main call finds as its offset: the offset argument. -/
theorem entry_v4 (c : Dev nD) :
    (V5 m ρ c main_v4 : Vec Ideal S1 .f32) = shapeCast S1 (m ((c : Thread nD τ).loc main_arg4) : Vec Ideal S_ .f32) shapeCasts_S_S1 := by
  show StableHlo.after hostOps1_2 (W4 m ρ c) (Proc.devRef .tc main_v4) = _
  after_results
  rw [W2_args m ρ c main_arg4 (by decide)]
  rfl

/-- What the main call finds as its codes: the codes argument transposed. -/
theorem entry_v5 (c : Dev nD) :
    (V5 m ρ c main_v5 : Vec Ideal S112x20480 .i8)
      = transpose S112x20480 [1, 0] (m ((c : Thread nD τ).loc main_arg2) : Vec Ideal S20480x112 .i8) transposes_S20480x112_S112x20480_1_0 := by
  show StableHlo.after hostOps1_2 (W4 m ρ c) (Proc.devRef .tc main_v5) = _
  after_results
  rw [W2_args m ρ c main_arg2 (by decide)]

/-- What the main call finds as its second low-rank factor: the argument transposed. -/
theorem entry_v6 (c : Dev nD) :
    (V5 m ρ c main_v6 : Vec Ideal S16x20480 .bf16)
      = transpose S16x20480 [1, 0] (m ((c : Thread nD τ).loc main_arg6) : Vec Ideal S20480x16 .bf16) transposes_S20480x16_S16x20480_1_0 := by
  show StableHlo.after hostOps1_2 (W4 m ρ c) (Proc.devRef .tc main_v6) = _
  after_results
  rw [W2_args m ρ c main_arg6 (by decide)]

/-- The group scales before padding: one row for each block of 256 output columns. -/
theorem entry_v2 (c : Dev nD) :
    (W3 m ρ c (Proc.devRef .tc main_v2) : Vec Ideal S80x1x112 .f32)
      = shapeCast S80x1x112 (m ((c : Thread nD τ).loc main_arg3) : Vec Ideal S8960 .f32) shapeCasts_S8960_S80x1x112 := by
  show StableHlo.after hostOps1 (W2 m ρ c) (Proc.devRef .tc main_v2) = _
  after_results
  rw [W2_args m ρ c main_arg3 (by decide)]
  rfl

/-- The group scales, 112 to the tile, as the second call reads them: the padding is past the ones it uses. -/
theorem entry_v3 (c : Dev nD) (j : Fin 80) (g : Fin 112) :
    (V5 m ρ c main_v3 : Vec Ideal S80x1x128 .f32) (ix3 j 0 ⟨g.val, by omega⟩)
      = (m ((c : Thread nD τ).loc main_arg3) : Vec Ideal S8960 .f32) (ix1 ⟨112 * j.val + g.val, by omega⟩) := by
  have e : (V5 m ρ c main_v3 : Vec Ideal S80x1x128 .f32)
      = pad S80x1x128 ![0, 0, 0] ![0, 0, 16] ![0, 0, 0] (W3 m ρ c (Proc.devRef .tc main_v2) : Vec Ideal S80x1x112 .f32)
          (sitofp (F := Ideal) .f32 (W3 m ρ c (Proc.devRef .tc main_c) : IVec S_ 32)) pads_S80x1x112_S80x1x128_000_000_0160 h_S_ := by
    refine (W5_of m ρ c main_v3 (by decide)).trans ?_
    show StableHlo.after hostOps1_1 (W3 m ρ c) (Proc.devRef .tc main_v3) = _
    after_results
    rfl
  rw [e, entry_v2]
  refine (pad_apply_of_inside _ _ _ _ _ _ _ _ (ix3 j 0 g) fun a => by fin_cases a <;> simp).trans ?_
  refine shapeCast_apply _ _ _ (ix1 ⟨112 * j.val + g.val, by omega⟩) ?_
  rw [Shape.rowMajor_val_one, Shape.rowMajor_val_three]
  show 112 * j.val + g.val = (j.val * 1 + 0) * 112 + g.val
  omega

/-- The deinterleaved activations as the second call reads them. -/
theorem entry_v1_0 (c : Dev nD) :
    (V5 m ρ c main_v1_0 : Vec Ideal S1792x7168 .bf16) = prepArr (V1 m ρ c main_v0) :=
  (W5_of m ρ c main_v1_0 (by decide)).trans ((W4_of m ρ c main_v1_0 (by decide)).trans ((W3_of m ρ c main_v1_0 (by decide)).trans
    ((W2_arr m ρ c 2).trans (prep_array (V1 m ρ) c))))

/-- What the main call finds as its low-rank operand: the second result of the prep call. -/
theorem entry_v1_1 (c : Dev nD) :
    (V5 m ρ c main_v1_1 : Vec Ideal S1792x16 .bf16) = lowArr (V1 m ρ c main_v0) (m ((c : Thread nD τ).loc main_arg5)) :=
  (W5_of m ρ c main_v1_1 (by decide)).trans ((W4_of m ρ c main_v1_1 (by decide)).trans ((W3_of m ρ c main_v1_1 (by decide)).trans
    ((W2_arr m ρ c 3).trans ((low_array (V1 m ρ) c).trans (congrArg (lowArr _) (W1_args m ρ c main_arg5 (by decide)))))))

/-- What the main call finds as its packed weights: the argument itself. -/
theorem entry_arg1 (c : Dev nD) : V5 m ρ c main_arg1 = m ((c : Thread nD τ).loc main_arg1) := W5_args m ρ c main_arg1 (by decide)

/-- The result: the second call's output array with its rows split into the two leading axes. -/
theorem result_eq (c : Dev nD) :
    (W7 m ρ c (Proc.devRef .tc main_v8) : Vec Ideal S2x896x20480 .bf16)
      = shapeCast S2x896x20480 (mainOut (V5 m ρ c main_v4) (V5 m ρ c main_v1_0) (V5 m ρ c main_v1_1) (V5 m ρ c main_arg1)
          (V5 m ρ c main_v5) (V5 m ρ c main_v3) (V5 m ρ c main_v6)) shapeCasts_S1792x20480_S2x896x20480 := by
  show StableHlo.after hostOps2 (W6 m ρ c) (Proc.devRef .tc main_v8) = _
  after_results
  exact congrArg (fun v : Vec Ideal S1792x20480 .bf16 => shapeCast S2x896x20480 v shapeCasts_S1792x20480_S2x896x20480)
    ((W6_arr m ρ c 7).trans (main_array (V5 m ρ) c))

/-- The activations' merged row `896 b + s` is the row `(b, s)`. -/
theorem entry_v0_apply (c : Dev nD) (b : Fin 2) (s : Fin 896) (k : Fin 7168) :
    (V1 m ρ c main_v0 : Vec Ideal S1792x7168 .bf16) (ix2 ⟨896 * b.val + s.val, by omega⟩ k)
      = (m ((c : Thread nD τ).loc main_arg0) : Vec Ideal S2x896x7168 .bf16) (ix3 b s k) := by
  rw [entry_v0]
  refine shapeCast_apply _ _ _ (ix3 b s k) ?_
  rw [Shape.rowMajor_val_two, Shape.rowMajor_val_three]
  show (b.val * 896 + s.val) * 7168 + k.val = (896 * b.val + s.val) * 7168 + k.val
  omega

/-- One dequantized weight, from the arguments: row `o`, column `k` of the kernel's column order. -/
def dequant (w : Vec Ideal S20480x3584 .i8) (codes : Vec Ideal S20480x112 .i8) (scales : Vec Ideal S8960 .f32)
    (off : Vec Ideal S_ .f32) (o : Fin 20480) (k : Fin 7168) : EReal :=
  nf (nib (k.val / 128 % 2) (w (ix2 o ⟨128 * (k.val / 256) + k.val % 128, by omega⟩) : BitVec 8))
    * ((FloatOps.sitofp (F := Ideal) .f32 (codes (ix2 o ⟨4 * (k.val / 256) + k.val % 128 / 32, by omega⟩) : BitVec 8) : EReal)
        * scales (ix1 ⟨(112 * o.val + (4 * (k.val / 256) + k.val % 128 / 32)) / 256, by omega⟩) + off ix0)

/-- The weight the second call builds is the one of the arguments. -/
theorem weight_eq (c : Dev nD) (o : Fin 20480) (k : Fin 7168) :
    weight (V5 m ρ c main_arg1) (V5 m ρ c main_v5) (V5 m ρ c main_v3) (V5 m ρ c main_v4) o k
      = dequant (m ((c : Thread nD τ).loc main_arg1)) (m ((c : Thread nD τ).loc main_arg2)) (m ((c : Thread nD τ).loc main_arg3))
          (m ((c : Thread nD τ).loc main_arg4)) o k := by
  have hg : (112 * (o.val % 256) + (4 * (k.val / 256) + k.val % 128 / 32)) / 256 < 112 := by omega
  have h5 : (V5 m ρ c main_v5 : Vec Ideal S112x20480 .i8) (ix2 ⟨4 * (k.val / 256) + k.val % 128 / 32, by omega⟩ o)
      = (m ((c : Thread nD τ).loc main_arg2) : Vec Ideal S20480x112 .i8) (ix2 o ⟨4 * (k.val / 256) + k.val % 128 / 32, by omega⟩) := by
    rw [entry_v5, transpose_apply]
    exact fun a => by fin_cases a <;> rfl
  have h4 : (V5 m ρ c main_v4 : Vec Ideal S1 .f32) (ix1 0) = (m ((c : Thread nD τ).loc main_arg4) : Vec Ideal S_ .f32) ix0 := by
    rw [entry_v4]
    exact congrArg (m ((c : Thread nD τ).loc main_arg4) : Vec Ideal S_ .f32) (funext fun a => a.elim0)
  have h3 := entry_v3 m ρ c ⟨o.val / 256, by omega⟩ ⟨_, hg⟩
  unfold weight dequant
  rw [entry_arg1, h5, h4]
  refine congrArg (fun v : EReal => _ * (_ * v + _)) (h3.trans ?_)
  refine congrArg (m ((c : Thread nD τ).loc main_arg3) : Vec Ideal S8960 .f32) (congrArg ix1 (Fin.ext ?_))
  show 112 * (o.val / 256) + (112 * (o.val % 256) + (4 * (k.val / 256) + k.val % 128 / 32)) / 256
    = (112 * o.val + (4 * (k.val / 256) + k.val % 128 / 32)) / 256
  omega

/-- The kernel's value at row `(b, s)` and output column `o`, from the arguments. -/
def kernelAt (x : Vec Ideal S2x896x7168 .bf16) (w : Vec Ideal S20480x3584 .i8) (codes : Vec Ideal S20480x112 .i8)
    (scales : Vec Ideal S8960 .f32) (off : Vec Ideal S_ .f32) (la : Vec Ideal S16x7168 .bf16) (lb : Vec Ideal S20480x16 .bf16)
    (b : Fin 2) (s : Fin 896) (o : Fin 20480) : EReal :=
  (∑ k : Fin 7168, (x (ix3 b s ⟨256 * (k.val / 256) + srcCol (k.val % 256), by
      have := srcCol_lt (c := k.val % 256) (by omega); omega⟩) : EReal) * dequant w codes scales off o k)
    + 2 * ∑ r : Fin 16, (∑ k : Fin 7168, (x (ix3 b s k) : EReal) * la (ix2 r k)) * lb (ix2 o r)

/-- The kernel's result at an index. -/
theorem result_apply (c : Dev nD) (b : Fin 2) (s : Fin 896) (o : Fin 20480) :
    (W7 m ρ c (Proc.devRef .tc main_v8) : Vec Ideal S2x896x20480 .bf16) (ix3 b s o)
      = kernelAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b s o := by
  rw [result_eq]
  refine (shapeCast_apply _ _ _ (ix2 ⟨896 * b.val + s.val, by omega⟩ o : S1792x20480.Idx) ?_).trans ?_
  · rw [Shape.rowMajor_val_two, Shape.rowMajor_val_three]
    show (896 * b.val + s.val) * 20480 + o.val = (b.val * 896 + s.val) * 20480 + o.val
    omega
  unfold mainOut kernelAt
  refine congrArg₂ (fun a b : EReal => a + 2 * b) (Finset.sum_congr rfl fun k _ => ?_) (Finset.sum_congr rfl fun r _ => ?_)
  · refine congrArg₂ (fun a b : EReal => a * b) ?_ (weight_eq m ρ c o k)
    rw [entry_v1_0]
    exact entry_v0_apply m ρ c b s _
  · refine congrArg₂ (fun a b : EReal => a * b) ?_ ?_
    · rw [entry_v1_1]
      exact Finset.sum_congr rfl fun k _ => congrArg (fun a : EReal => a * _) (entry_v0_apply m ρ c b s k)
    · rw [entry_v6, transpose_apply]
      exact fun a => by fin_cases a <;> rfl

end Cert.KernelIdeal.Hand
-- ==== Proof.Equation.lean ====
module

public import proofs.«01_k».proof.Proof.RefValue
public import proofs.«01_k».proof.Proof.HostOps

@[expose] public section
set_option maxRecDepth 16384

/-! The kernel's sum over its own column order is the reference's sum over byte halves and bytes. -/

noncomputable section

namespace Cert.Equation

open Idealize.ShloMosaic hiding ix0 ix1 ix2 ix3 ix4
open Idealize.ShloMosaic.TcCoe Idealize.ShloMosaic.ValueIdx Cert.KernelIdeal Cert.KernelIdeal.Gen
open Cert.KernelIdeal.Hand

/-- The column at which the kernel keeps half `f` of byte `k`: the bytes go by groups of 128, first the 128 high halves
    of a group, then its 128 low halves. -/
def column : Fin 2 × Fin 3584 ≃ Fin 7168 where
  toFun p := ⟨256 * (p.2.val / 128) + 128 * p.1.val + p.2.val % 128, by have := p.1.isLt; have := p.2.isLt; omega⟩
  invFun K := (⟨K.val / 128 % 2, by omega⟩, ⟨128 * (K.val / 256) + K.val % 128, by have := K.isLt; omega⟩)
  left_inv p := by
    have h1 := p.1.isLt
    have h2 := p.2.isLt
    refine Prod.ext (Fin.ext ?_) (Fin.ext ?_)
    · show (256 * (p.2.val / 128) + 128 * p.1.val + p.2.val % 128) / 128 % 2 = p.1.val
      omega
    · show 128 * ((256 * (p.2.val / 128) + 128 * p.1.val + p.2.val % 128) / 256) + (256 * (p.2.val / 128) + 128 * p.1.val + p.2.val % 128) % 128 = p.2.val
      omega
  right_inv K := by
    have h := K.isLt
    refine Fin.ext ?_
    show 256 * ((128 * (K.val / 256) + K.val % 128) / 128) + 128 * (K.val / 128 % 2) + (128 * (K.val / 256) + K.val % 128) % 128 = K.val
    omega

/-- A sum over the kernel's columns, by halves and bytes. -/
theorem sum_column (g : Fin 7168 → EReal) : ∑ K, g K = ∑ f : Fin 2, ∑ k : Fin 3584, g (column (f, k)) := by
  rw [← Equiv.sum_comp column, Fintype.sum_prod_type]

/-- What the kernel's own arithmetic on a column gives: the activations' column, the half, the byte and the block. -/
theorem column_facts (f : Fin 2) (k : Fin 3584) :
    256 * ((column (f, k)).val / 256) + srcCol ((column (f, k)).val % 256) = 2 * k.val + f.val
      ∧ (column (f, k)).val / 128 % 2 = f.val
      ∧ 128 * ((column (f, k)).val / 256) + (column (f, k)).val % 128 = k.val
      ∧ 4 * ((column (f, k)).val / 256) + (column (f, k)).val % 128 / 32 = k.val / 32 := by
  have hf := f.isLt
  have hK : (column (f, k)).val = 256 * (k.val / 128) + 128 * f.val + k.val % 128 := rfl
  generalize (column (f, k)).val = K at hK ⊢
  generalize f.val = f at hf hK ⊢
  generalize k.val = k at hK ⊢
  refine ⟨?_, ?_, ?_, ?_⟩
  · unfold srcCol; split <;> omega
  all_goals omega

/-- Both programs compute the same number at every element, from any arguments. -/
theorem kernelAt_eq (x : Vec Ideal S2x896x7168 .bf16) (w : Vec Ideal S20480x3584 .i8) (codes : Vec Ideal S20480x112 .i8) (scales : Vec Ideal S8960 .f32)
    (off : Vec Ideal S_ .f32) (la : Vec Ideal S16x7168 .bf16) (lb : Vec Ideal S20480x16 .bf16) (b : Fin 2) (s : Fin 896) (o : Fin 20480) :
    kernelAt x w codes scales off la lb b s o = Cert.ReferenceIdeal.Hand.referenceAt x w codes scales off la lb b s o := by
  unfold kernelAt Cert.ReferenceIdeal.Hand.referenceAt
  refine congrArg (fun t : EReal => t + _) ?_
  rw [sum_column]
  refine congrArg (fun g : Fin 2 → EReal => ∑ f, g f) (funext fun f => ?_)
  refine congrArg (fun g : Fin 3584 → EReal => ∑ k, g k) (funext fun k => ?_)
  obtain ⟨hcol, hhalf, hbyte, hblock⟩ := column_facts f k
  generalize column (f, k) = K at hcol hhalf hbyte hblock ⊢
  refine congrArg₂ (fun a b : EReal => a * b) ?_ ?_
  · exact congrArg (fun j => (x j : EReal)) (idx3_ext rfl rfl hcol)
  · unfold dequant Cert.ReferenceIdeal.Hand.absmaxAt
    refine congrArg₂ (fun a b : EReal => a * b) ?_ (congrArg (fun t : EReal => t + _) (congrArg₂ (fun a b : EReal => a * b) ?_ ?_))
    · exact congrArg₂ (fun h j => nf (nib h (w j : BitVec 8))) hhalf (idx2_ext rfl hbyte)
    · exact congrArg (fun j => (FloatOps.sitofp (F := Ideal) .f32 (codes j : BitVec 8) : EReal)) (idx2_ext rfl hblock)
    · refine congrArg (fun j => (scales j : EReal)) (congrArg ix1 (Fin.ext ?_))
      show (112 * o.val + (4 * (K.val / 256) + K.val % 128 / 32)) / 256 = (112 * o.val + k.val / 32) / 256
      rw [hblock]

end Cert.Equation
-- ==== Proof.lean ====
/- The proof of the certificate's claim. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference is a straight line of host operations that declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From equal arguments the reference's result is the array the kernel leaves, element by element. -/
theorem values_agree (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v67 (F := Ideal) m' c
      = Cert.KernelIdeal.Gen.W7 m g c (Proc.devRef .tc Cert.KernelIdeal.main_v8) := by
  obtain ⟨h0, h1, h2, h3, h4, h5, h6⟩ := hargs
  rw [Cert.ReferenceIdeal.Read.val_main_v67_eq m' c, h0, h1, h2, h3, h4, h5, h6]
  funext i
  have ei : i = ValueIdx.ix3 (i 0) (i 1) (i 2) := Cert.KernelIdeal.Hand.idx3_ext rfl rfl rfl
  rw [ei]
  exact (Cert.ReferenceIdeal.Hand.result_apply _ _ _ _ _ _ _ (i 0) (i 1) (i 2)).trans
    ((Cert.Equation.kernelAt_eq _ _ _ _ _ _ _ (i 0) (i 1) (i 2)).symm.trans (Cert.KernelIdeal.Hand.result_apply m g c (i 0) (i 1) (i 2)).symm)

/-- Both programs end with equal results and unchanged arguments. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Gen.W7 m g c (Proc.devRef .tc Cert.KernelIdeal.main_v8), Cert.KernelIdeal.Hand.run m g,
    (θ_run Cert.ReferenceIdeal.defs _ _).mono (fun _ h c => ⟨(h c).1.trans (values_agree m g m' c (hargs c)), (h c).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
